-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x4096 : Shape := ⟨2, ![4096, 4096]⟩
abbrev S4096 : Shape := ⟨1, ![4096]⟩
abbrev S16x32 : Shape := ⟨2, ![16, 32]⟩
abbrev S16 : Shape := ⟨1, ![16]⟩
abbrev S16x16 : Shape := ⟨2, ![16, 16]⟩
abbrev S1x16 : Shape := ⟨2, ![1, 16]⟩
abbrev S1 : Shape := ⟨1, ![1]⟩
abbrev S4096x1 : Shape := ⟨2, ![4096, 1]⟩
abbrev S_ : Shape := ⟨0, ![]⟩

class Facts : Prop where
  bcast_S_S4096x4096 : S_.BroadcastsInDim S4096x4096 (![] : Fin 0 → Fin S4096x4096.rank)
  slices_S16x32_S16x16_0_16 : S16x32.Slices ![0, 16] S16x16
  bcast_S_S16x16 : S_.BroadcastsInDim S16x16 (![] : Fin 0 → Fin S16x16.rank)

variable [Facts]

def fn {F : FTy → Type} [FloatOps F] (main_arg0 : FVec F S4096x4096 .f32) (main_arg1 : FVec F S4096 .f32) (main_arg2 : FVec F S16x32 .f32) (main_arg3 : FVec F S16 .f32) (main_arg4 : FVec F S16x32 .f32) (main_arg5 : FVec F S16 .f32) (main_arg6 : FVec F S16x16 .f32) (main_arg7 : FVec F S16 .f32) (main_arg8 : FVec F S1x16 .f32) (main_arg9 : FVec F S1 .f32) (main_arg10 : FVec F S4096x1 .f32) : IVec S4096x4096 1 × IVec S16x16 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S16x16 .f32 := (extractStridedSlice S16x16 ![0, 16] · slices_S16x32_S16x16_0_16) main_arg2
  let main_v4 : FVec F S16x16 .f32 := Host.absf main_v3
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  (main_v2, main_v6)
-- ==== Kernel.lean ====
abbrev S4096x4096 : Shape := ⟨2, ![4096, 4096]⟩
abbrev S4096 : Shape := ⟨1, ![4096]⟩
abbrev S16x32 : Shape := ⟨2, ![16, 32]⟩
abbrev S16 : Shape := ⟨1, ![16]⟩
abbrev S16x16 : Shape := ⟨2, ![16, 16]⟩
abbrev S1x16 : Shape := ⟨2, ![1, 16]⟩
abbrev S1 : Shape := ⟨1, ![1]⟩
abbrev S4096x1 : Shape := ⟨2, ![4096, 1]⟩
abbrev S32x16 : Shape := ⟨2, ![32, 16]⟩
abbrev S_ : Shape := ⟨0, ![]⟩
abbrev S16x128 : Shape := ⟨2, ![16, 128]⟩
abbrev S1x128 : Shape := ⟨2, ![1, 128]⟩
abbrev S2 : Shape := ⟨1, ![2]⟩
abbrev S4096x128 : Shape := ⟨2, ![4096, 128]⟩
abbrev S256x4096 : Shape := ⟨2, ![256, 4096]⟩
abbrev S4096x16 : Shape := ⟨2, ![4096, 16]⟩
abbrev S1x4096 : Shape := ⟨2, ![1, 4096]⟩
abbrev S2048x4096 : Shape := ⟨2, ![2048, 4096]⟩
abbrev S2048x16 : Shape := ⟨2, ![2048, 16]⟩
abbrev S4096x2048 : Shape := ⟨2, ![4096, 2048]⟩

abbrev nBuf : Space → Nat
  | .hbm => 44
  | .vmem => 19
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S16x32, .f32⟩
  | .hbm, ⟨3, _⟩ => ⟨S16, .f32⟩
  | .hbm, ⟨4, _⟩ => ⟨S16x32, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S1x16, .f32⟩
  | .hbm, ⟨9, _⟩ => ⟨S1, .f32⟩
  | .hbm, ⟨10, _⟩ => ⟨S4096x1, .f32⟩
  | .hbm, ⟨11, _⟩ => ⟨S32x16, .f32⟩
  | .hbm, ⟨12, _⟩ => ⟨S16x16, .f32⟩
  | .hbm, ⟨13, _⟩ => ⟨S16x16, .f32⟩
  | .hbm, ⟨14, _⟩ => ⟨S32x16, .f32⟩
  | .hbm, ⟨15, _⟩ => ⟨S16x16, .f32⟩
  | .hbm, ⟨16, _⟩ => ⟨S16x16, .f32⟩
  | .hbm, ⟨17, _⟩ => ⟨S1x16, .f32⟩
  | .hbm, ⟨18, _⟩ => ⟨S1x16, .f32⟩
  | .hbm, ⟨19, _⟩ => ⟨S16x16, .f32⟩
  | .hbm, ⟨20, _⟩ => ⟨S1x16, .f32⟩
  | .hbm, ⟨21, _⟩ => ⟨S_, .f32⟩
  | .hbm, ⟨22, _⟩ => ⟨S16x128, .f32⟩
  | .hbm, ⟨23, _⟩ => ⟨S16, .f32⟩
  | .hbm, ⟨24, _⟩ => ⟨S_, .i32⟩
  | .hbm, ⟨25, _⟩ => ⟨S1, .i32⟩
  | .hbm, ⟨26, _⟩ => ⟨S16x128, .f32⟩
  | .hbm, ⟨27, _⟩ => ⟨S_, .f32⟩
  | .hbm, ⟨28, _⟩ => ⟨S1x128, .f32⟩
  | .hbm, ⟨29, _⟩ => ⟨S_, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S_, .f32⟩
  | .hbm, ⟨37, _⟩ => ⟨S4096x128, .f32⟩
  | .hbm, ⟨38, _⟩ => ⟨S4096, .f32⟩
  | .hbm, ⟨39, _⟩ => ⟨S_, .i32⟩
  | .hbm, ⟨40, _⟩ => ⟨S1, .i32⟩
  | .hbm, ⟨41, _⟩ => ⟨S4096x128, .f32⟩
  | .hbm, ⟨42, _⟩ => ⟨S4096x128, .f32⟩
  | .hbm, ⟨43, _⟩ => ⟨S4096x1, .f32⟩
  | .local _ .vmem, ⟨0, _⟩ => ⟨S256x4096, .f32⟩
  | .local _ .vmem, ⟨1, _⟩ => ⟨S256x4096, .f32⟩
  | .local _ .vmem, ⟨2, _⟩ => ⟨S16x16, .f32⟩
  | .local _ .vmem, ⟨3, _⟩ => ⟨S16x16, .f32⟩
  | .local _ .vmem, ⟨4, _⟩ => ⟨S1x16, .f32⟩
  | .local _ .vmem, ⟨5, _⟩ => ⟨S16x16, .f32⟩
  | .local _ .vmem, ⟨6, _⟩ => ⟨S16x16, .f32⟩
  | .local _ .vmem, ⟨7, _⟩ => ⟨S1x16, .f32⟩
  | .local _ .vmem, ⟨8, _⟩ => ⟨S16x16, .f32⟩
  | .local _ .vmem, ⟨9, _⟩ => ⟨S1x16, .f32⟩
  | .local _ .vmem, ⟨10, _⟩ => ⟨S16x128, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S4096x4096, .bf16⟩
  | .local _ .vmem, ⟨15, _⟩ => ⟨S4096x16, .f32⟩
  | .local _ .vmem, ⟨16, _⟩ => ⟨S4096x16, .f32⟩
  | .local _ .vmem, ⟨17, _⟩ => ⟨S4096x16, .f32⟩
  | .local _ .vmem, ⟨18, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c256_i32 : BitVec 32 := 256#32
  let v8 : BitVec 32 := Scalar.muli arg0 c256_i32
  let v9 : Index := Scalar.indexCast v8
  let c0_3 : Index := 0#32
  ![v9.toNat, 0]
def k0_cond4 (i : grid0.Coords) : BitVec 1 :=
  let arg0 : BitVec 32 := BitVec.ofNat 32 (i 0).val
  let c16_i32_0 : BitVec 32 := 16#32
  let v3 : BitVec 1 := Scalar.cmpi .eq arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x4096 : Shape := ⟨2, ![4096, 4096]⟩
abbrev S4096 : Shape := ⟨1, ![4096]⟩
abbrev S16x32 : Shape := ⟨2, ![16, 32]⟩
abbrev S16 : Shape := ⟨1, ![16]⟩
abbrev S16x16 : Shape := ⟨2, ![16, 16]⟩
abbrev S1x16 : Shape := ⟨2, ![1, 16]⟩
abbrev S1 : Shape := ⟨1, ![1]⟩
abbrev S4096x1 : Shape := ⟨2, ![4096, 1]⟩
abbrev S_ : Shape := ⟨0, ![]⟩
abbrev S4096x16 : Shape := ⟨2, ![4096, 16]⟩
abbrev S4096x32 : Shape := ⟨2, ![4096, 32]⟩
abbrev S32x16 : Shape := ⟨2, ![32, 16]⟩
abbrev S16x1 : Shape := ⟨2, ![16, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S16x32, .f32⟩
  | .hbm, ⟨3, _⟩ => ⟨S16, .f32⟩
  | .hbm, ⟨4, _⟩ => ⟨S16x32, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S1x16, .f32⟩
  | .hbm, ⟨9, _⟩ => ⟨S1, .f32⟩
  | .hbm, ⟨10, _⟩ => ⟨S4096x1, .f32⟩
  | .hbm, ⟨11, _⟩ => ⟨S_, .f32⟩
  | .hbm, ⟨12, _⟩ => ⟨S4096x16, .f32⟩
  | .hbm, ⟨13, _⟩ => ⟨S_, .f32⟩
  | .hbm, ⟨14, _⟩ => ⟨S4096x16, .f32⟩
  | .hbm, ⟨15, _⟩ => ⟨S4096x4096, .f32⟩
  | .hbm, ⟨16, _⟩ => ⟨S4096x16, .f32⟩
  | .hbm, ⟨17, _⟩ => ⟨S4096x32, .f32⟩
  | .hbm, ⟨18, _⟩ => ⟨S32x16, .f32⟩
  | .hbm, ⟨19, _⟩ => ⟨S4096x16, .f32⟩
  | .hbm, ⟨20, _⟩ => ⟨S1x16, .f32⟩
  | .hbm, ⟨21, _⟩ => ⟨S4096x16, .f32⟩
  | .hbm, ⟨22, _⟩ => ⟨S4096x16, .f32⟩
  | .hbm, ⟨23, _⟩ => ⟨S_, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x32, .f32⟩
  | .hbm, ⟨28, _⟩ => ⟨S32x16, .f32⟩
  | .hbm, ⟨29, _⟩ => ⟨S4096x16, .f32⟩
  | .hbm, ⟨30, _⟩ => ⟨S1x16, .f32⟩
  | .hbm, ⟨31, _⟩ => ⟨S4096x16, .f32⟩
  | .hbm, ⟨32, _⟩ => ⟨S4096x16, .f32⟩
  | .hbm, ⟨33, _⟩ => ⟨S_, .f32⟩
  | .hbm, ⟨34, _⟩ => ⟨S4096x16, .f32⟩
  | .hbm, ⟨35, _⟩ => ⟨S4096x16, .f32⟩
  | .hbm, ⟨36, _⟩ => ⟨S4096x4096, .f32⟩
  | .hbm, ⟨37, _⟩ => ⟨S4096x16, .f32⟩
  | .hbm, ⟨38, _⟩ => ⟨S4096x32, .f32⟩
  | .hbm, ⟨39, _⟩ => ⟨S32x16, .f32⟩
  | .hbm, ⟨40, _⟩ => ⟨S4096x16, .f32⟩
  | .hbm, ⟨41, _⟩ => ⟨S1x16, .f32⟩
  | .hbm, ⟨42, _⟩ => ⟨S4096x16, .f32⟩
  | .hbm, ⟨43, _⟩ => ⟨S4096x16, .f32⟩
  | .hbm, ⟨44, _⟩ => ⟨S_, .f32⟩
  | .hbm, ⟨45, _⟩ => ⟨S4096x16, .f32⟩
  | .hbm, ⟨46, _⟩ => ⟨S4096x16, .f32⟩
  | .hbm, ⟨47, _⟩ => ⟨S4096x16, .f32⟩
  | .hbm, ⟨48, _⟩ => ⟨S4096x32, .f32⟩
  | .hbm, ⟨49, _⟩ => ⟨S32x16, .f32⟩
  | .hbm, ⟨50, _⟩ => ⟨S4096x16, .f32⟩
  | .hbm, ⟨51, _⟩ => ⟨S1x16, .f32⟩
  | .hbm, ⟨52, _⟩ => ⟨S4096x16, .f32⟩
  | .hbm, ⟨53, _⟩ => ⟨S4096x16, .f32⟩
  | .hbm, ⟨54, _⟩ => ⟨S_, .f32⟩
  | .hbm, ⟨55, _⟩ => ⟨S4096x16, .f32⟩
  | .hbm, ⟨56, _⟩ => ⟨S4096x16, .f32⟩
  | .hbm, ⟨57, _⟩ => ⟨S16x16, .f32⟩
  | .hbm, ⟨58, _⟩ => ⟨S4096x16, .f32⟩
  | .hbm, ⟨59, _⟩ => ⟨S1x16, .f32⟩
  | .hbm, ⟨60, _⟩ => ⟨S4096x16, .f32⟩
  | .hbm, ⟨61, _⟩ => ⟨S4096x16, .f32⟩
  | .hbm, ⟨62, _⟩ => ⟨S_, .f32⟩
  | .hbm, ⟨63, _⟩ => ⟨S4096x16, .f32⟩
  | .hbm, ⟨64, _⟩ => ⟨S4096x16, .f32⟩
  | .hbm, ⟨65, _⟩ => ⟨S16x1, .f32⟩
  | .hbm, ⟨66, _⟩ => ⟨S4096x1, .f32⟩
  | .hbm, ⟨67, _⟩ => ⟨S1x1, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_cst : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call1_cst : Ref sig .tc := ⟨.hbm, 33, rfl⟩
abbrev main_call1_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call2_cst : Ref sig .tc := ⟨.hbm, 44, rfl⟩
abbrev main_call2_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call3_cst : Ref sig .tc := ⟨.hbm, 54, rfl⟩
abbrev main_call3_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call4_cst : Ref sig .tc := ⟨.hbm, 62, rfl⟩
abbrev main_call4_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_1 : Ref sig .tc := ⟨.hbm, 73, rfl⟩
abbrev main_v50 : Ref sig .tc := ⟨.hbm, 74, rfl⟩
abbrev main_v51 : Ref sig .tc := ⟨.hbm, 75, rfl⟩
abbrev main_cst_2 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Proof.Run.Loads.lean ====
module

public import Idealize.ShloMosaic.Lib.Pipeline.FrameBody
public import Idealize.ShloMosaic.Lib.VecWindow
public import Idealize.ShloMosaic.Lib.WritesUnit

@[expose] public section

noncomputable section

namespace Cert.Loads

open Idealize.ShloMosaic

variable {sig : RefSig} {κ : Kind} {sp : Space} {s : Shape} {e : EltTy} {Val : EltTy → Type}

/-- Loading a whole buffer reads its contents. -/
theorem load_whole (v : View sig κ sp s e) (f : v.ty.Contents Val) {off : Fin s.rank → ℕ} (inb : ∀ a, off a + s.size a ≤ s.size a) :
    v.readAt Val (Rect.unit off (no_index s.size) inb).toLoadRect f = v.read Val f :=
  View.readAt_full v f inb

/-- Loading a whole buffer that was just stored whole reads the stored value. -/
theorem reload_whole [∀ e, Nonempty (Val e)] (v : View sig κ sp s e) {off off' : Fin s.rank → ℕ}
    (inb : ∀ a, off a + s.size a ≤ s.size a) (inb' : ∀ a, off' a + s.size a ≤ s.size a) (w : s.Idx → Val e)
    (L : List (View.Piece Val s e)) :
    v.readCov (⟨Rect.unit off' (no_index s.size) inb', w⟩ :: L) (Rect.unit off (no_index s.size) inb).toLoadRect = w :=
  View.readCov_full v inb inb' w L

/-- A buffer stored whole reads back the stored value. -/
theorem store_whole (v : View sig κ sp s e) (f : v.ty.Contents Val) {off : Fin s.rank → ℕ}
    (inb : ∀ a, off a + s.size a ≤ s.size a) (w : s.Idx → Val e) (L : List (View.Piece Val s e)) :
    v.read Val (v.writes Val f (⟨Rect.unit off (no_index s.size) inb, w⟩ :: L)) = w :=
  View.read_writes_full v f inb w L

end Cert.Loads

end
-- ==== Proof.Run.KIParts.lean ====
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Run.Loads
public import Idealize.ShloMosaic.Lib.Pointwise.Index
public import Idealize.ShloMosaic.Lib.Pipeline.FrameBody
public import Idealize.ShloMosaic.Lib.WritesUnit
public import Idealize.ShloMosaic.Lib.Ring
public import Idealize.ShloMosaic.Lib.VecWindow
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the compute phase leaves, as functions of what the scratch and the inputs hold -/

/-- The upper half of the rows of the adjacency. -/
def topRows (X : Vec F S4096x4096 .bf16) : Vec F S2048x4096 .bf16 :=
  VecWindow.window X ![0, 0] S2048x4096.size inb_S4096x4096_S2048x4096_0_0

/-- The lower half of the rows of the adjacency. -/
def botRows (X : Vec F S4096x4096 .bf16) : Vec F S2048x4096 .bf16 :=
  VecWindow.window X ![2048, 0] S2048x4096.size inb_S4096x4096_S2048x4096_2048_0

/-- The left half of the columns of the adjacency. -/
def leftCols (X : Vec F S4096x4096 .bf16) : Vec F S4096x2048 .bf16 :=
  VecWindow.window X ![0, 0] S4096x2048.size inb_S4096x4096_S4096x2048_0_0

/-- The right half of the columns of the adjacency. -/
def rightCols (X : Vec F S4096x4096 .bf16) : Vec F S4096x2048 .bf16 :=
  VecWindow.window X ![0, 2048] S4096x2048.size inb_S4096x4096_S4096x2048_0_2048

/-- Two blocks of 2048 rows, one above the other. -/
def stack (a b : Vec F S2048x16 .f32) : Vec F S4096x16 .f32 := fun y =>
  if h : (y 0).val < 2048 then a (ix2 ⟨(y 0).val, h⟩ (y 1))
  else b (ix2 ⟨(y 0).val - 2048, by have := (y 0).isLt; change (y 0).val < 4096 at this; omega⟩ (y 1))

/-- Whatever a buffer of 4096 rows held, storing `a` in its upper rows and then `b` in its lower rows leaves `stack a b`. -/
theorem read_stack {κ : Kind} {sp : Space} (v : View sig κ sp S4096x16 .f32) (f : v.ty.Contents (Elt F)) (a b : Vec F S2048x16 .f32) :
    v.read (Elt F) (v.writes (Elt F) f
      [⟨Rect.unit ![2048, 0] S2048x16.size inb_S4096x16_S2048x16_2048_0, b⟩,
        ⟨Rect.unit ![0, 0] S2048x16.size inb_S4096x16_S2048x16_0_0, a⟩]) = stack a b := by
  funext y
  unfold stack
  have hy : (y 0).val < 4096 := (y 0).isLt
  by_cases h : (y 0).val < 2048
  · rw [dif_pos h]
    refine (View.read_writes_cons_rows_of_not_mem v f _ b _ y (o := 2048) (W := 2048) rfl rfl (Or.inl h)).trans ?_
    exact View.read_writes_cons_rows_of_mem v f _ a [] y (ix2 ⟨(y 0).val, h⟩ (y 1)) (o := 0) rfl
      (by show (y 0).val = 0 + (y 0).val; omega) rfl
  · rw [dif_neg h]
    exact View.read_writes_cons_rows_of_mem v f _ b _ y (ix2 ⟨(y 0).val - 2048, by omega⟩ (y 1)) (o := 2048) rfl
      (by show (y 0).val = 2048 + ((y 0).val - 2048); omega) rfl

/-! Loads of the halves. -/

/-- Loading the upper half of the rows of a buffer gives the upper rows of its contents. -/
theorem read_topRows {κ : Kind} {sp : Space} (v : View sig κ sp S4096x4096 .bf16) (f : v.ty.Contents (Elt F)) :
    v.readAt (Elt F) (Rect.unit (s := S4096x4096) ![0, 0] (no_index S2048x4096.size) inb_S4096x4096_S2048x4096_0_0).toLoadRect f = topRows (v.read (Elt F) f) := rfl

/-- Loading the lower half of the rows of a buffer gives the lower rows of its contents. -/
theorem read_botRows {κ : Kind} {sp : Space} (v : View sig κ sp S4096x4096 .bf16) (f : v.ty.Contents (Elt F)) :
    v.readAt (Elt F) (Rect.unit (s := S4096x4096) ![2048, 0] (no_index S2048x4096.size) inb_S4096x4096_S2048x4096_2048_0).toLoadRect f = botRows (v.read (Elt F) f) := rfl

/-- Loading the left half of the columns of a buffer gives the left columns of its contents. -/
theorem read_leftCols {κ : Kind} {sp : Space} (v : View sig κ sp S4096x4096 .bf16) (f : v.ty.Contents (Elt F)) :
    v.readAt (Elt F) (Rect.unit (s := S4096x4096) ![0, 0] (no_index S4096x2048.size) inb_S4096x4096_S4096x2048_0_0).toLoadRect f = leftCols (v.read (Elt F) f) := rfl

/-- Loading the right half of the columns of a buffer gives the right columns of its contents. -/
theorem read_rightCols {κ : Kind} {sp : Space} (v : View sig κ sp S4096x4096 .bf16) (f : v.ty.Contents (Elt F)) :
    v.readAt (Elt F) (Rect.unit (s := S4096x4096) ![0, 2048] (no_index S4096x2048.size) inb_S4096x4096_S4096x2048_0_2048).toLoadRect f = rightCols (v.read (Elt F) f) := rfl

/-! ## The four stretches of the compute phase -/

variable (i : grid0.Coords)
  (arg1 : Memref sig .tc .vmem S256x4096 .f32) (harg1 : arg1.IsWhole)
  (arg2 : Memref sig .tc .vmem S16x16 .f32) (harg2 : arg2.IsWhole)
  (arg3 : Memref sig .tc .vmem S16x16 .f32) (harg3 : arg3.IsWhole)
  (arg4 : Memref sig .tc .vmem S1x16 .f32) (harg4 : arg4.IsWhole)
  (arg5 : Memref sig .tc .vmem S16x16 .f32) (harg5 : arg5.IsWhole)
  (arg6 : Memref sig .tc .vmem S16x16 .f32) (harg6 : arg6.IsWhole)
  (arg7 : Memref sig .tc .vmem S1x16 .f32) (harg7 : arg7.IsWhole)
  (arg8 : Memref sig .tc .vmem S16x16 .f32) (harg8 : arg8.IsWhole)
  (arg9 : Memref sig .tc .vmem S1x16 .f32) (harg9 : arg9.IsWhole)
  (arg10 : Memref sig .tc .vmem S16x128 .f32) (harg10 : arg10.IsWhole)
  (arg11 : Memref sig .tc .vmem S1x128 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x4096 .bf16) (harg14 : arg14.IsWhole)
  (arg15 : Memref sig .tc .vmem S4096x16 .f32) (harg15 : arg15.IsWhole)
  (arg16 : Memref sig .tc .vmem S4096x16 .f32) (harg16 : arg16.IsWhole)
  (arg17 : Memref sig .tc .vmem S4096x16 .f32) (harg17 : arg17.IsWhole)
  (arg18 : Memref sig .tc .vmem S1x4096 .f32) (harg18 : arg18.IsWhole)

/-- The first stretch: the clause states out of the column sums, and the messages the adjacency carries from them, half of its rows at a time. -/
theorem part1_run (c : Dev nD) (x2 : Vec F S16x16 .f32) (x3 : Vec F S1x16 .f32) (x4 : Vec F S16x16 .f32)
    (X : Vec F S4096x4096 .bf16) (s : Vec F S1x4096 .f32) (E : Set ℕ) (K : FVec F S16x16 .f32 → sProp 𝕄) :
    iprop(owns (c : Thread nD τ) arg3 fullShare x2
        ∗ owns (c : Thread nD τ) arg4 fullShare x3
        ∗ owns (c : Thread nD τ) arg5 fullShare x4
        ∗ owns (c : Thread nD τ) arg14 fullShare X
        ∗ (∃ d, owns (c : Thread nD τ) arg15 fullShare d)
        ∗ (∃ d, owns (c : Thread nD τ) arg16 fullShare d)
        ∗ owns (c : Thread nD τ) arg18 fullShare s
        ∗ (iprop(owns (c : Thread nD τ) arg3 fullShare x2
            ∗ owns (c : Thread nD τ) arg4 fullShare x3
            ∗ owns (c : Thread nD τ) arg5 fullShare x4
            ∗ owns (c : Thread nD τ) arg14 fullShare X
            ∗ owns (c : Thread nD τ) arg15 fullShare (stack (k0_pay8 (k0_pay6 x2 s x3) (topRows X)) (k0_pay9 (k0_pay6 x2 s x3) (botRows X)))
            ∗ owns (c : Thread nD τ) arg16 fullShare (k0_pay6 x2 s x3)
            ∗ owns (c : Thread nD τ) arg18 fullShare s) -∗ K (k0_pay10 x4)))
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [k0_part1_eq_skeleton]; unfold k0_part1_skel
  unfold owns
  iintro ⟨⟨%f3, %hf3, H3⟩, ⟨%f4, %hf4, H4⟩, ⟨%f5, %hf5, H5⟩, ⟨%f14, %hf14, H14⟩, ⟨%d15, %f15, -, H15⟩, ⟨%d16, %f16, -, H16⟩, ⟨%f18, %hf18, H18⟩, Hk⟩
  obtain rfl := harg3.eq_unread hf3; obtain rfl := harg4.eq_unread hf4; obtain rfl := harg5.eq_unread hf5; obtain rfl := harg14.eq_unread hf14; obtain rfl := harg18.eq_unread hf18
  sl_exec
  sl_step
  unfold part1_run.sl.v24 part1_run.sl.H16_1
  simp only [read_topRows, read_botRows, read_leftCols, read_rightCols, Loads.load_whole, Loads.reload_whole, Loads.store_whole, Memref.IsWhole.read_unread]
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H14]
  · iexists _; isplitr; swap; · iexact H14
    ipureintro; exact harg14.read_unread _
  isplitl [H15]
  · iexists _; isplitr; swap; · iexact H15
    ipureintro; exact read_stack (F := F) _ _ _ _
  isplitl [H16]
  · iexists _; isplitr; swap; · iexact H16
    ipureintro; exact Loads.store_whole _ _ _ _ _
  iexists _; isplitr; swap; · iexact H18
  ipureintro; exact harg18.read_unread _

/-- The second stretch: the variable states out of the messages, and the messages the transposed adjacency carries from them, half of its columns at a time. -/
theorem part2_run (c : Dev nD) (w : FVec F S16x16 .f32) (x1 : Vec F S16x16 .f32) (x5 : Vec F S16x16 .f32) (x6 : Vec F S1x16 .f32)
    (X : Vec F S4096x4096 .bf16) (g : Vec F S4096x16 .f32) (q : Vec F S4096x16 .f32) (E : Set ℕ) (K : (Σ' (_ : Vec F S4096x16 .f32), Vec F S16x16 .f32) → sProp 𝕄) :
    iprop(owns (c : Thread nD τ) arg2 fullShare x1
        ∗ owns (c : Thread nD τ) arg6 fullShare x5
        ∗ owns (c : Thread nD τ) arg7 fullShare x6
        ∗ owns (c : Thread nD τ) arg14 fullShare X
        ∗ owns (c : Thread nD τ) arg15 fullShare g
        ∗ owns (c : Thread nD τ) arg16 fullShare q
        ∗ (∃ d, owns (c : Thread nD τ) arg17 fullShare d)
        ∗ (iprop(owns (c : Thread nD τ) arg2 fullShare x1
            ∗ owns (c : Thread nD τ) arg6 fullShare x5
            ∗ owns (c : Thread nD τ) arg7 fullShare x6
            ∗ owns (c : Thread nD τ) arg14 fullShare X
            ∗ owns (c : Thread nD τ) arg15 fullShare (stack (k0_pay13 (k0_pay11 w g x5 x6) (leftCols X)) (k0_pay14 (k0_pay11 w g x5 x6) (rightCols X)))
            ∗ owns (c : Thread nD τ) arg16 fullShare q
            ∗ owns (c : Thread nD τ) arg17 fullShare (k0_pay11 w g x5 x6)) -∗ K ⟨q, x1⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w) K := by
  simp only [k0_part2_eq_skeleton]; unfold k0_part2_skel
  unfold owns
  iintro ⟨⟨%f2, %hf2, H2⟩, ⟨%f6, %hf6, H6⟩, ⟨%f7, %hf7, H7⟩, ⟨%f14, %hf14, H14⟩, ⟨%f15, %hf15, H15⟩, ⟨%f16, %hf16, H16⟩, ⟨%d17, %f17, -, H17⟩, Hk⟩
  obtain rfl := harg2.eq_unread hf2; obtain rfl := harg6.eq_unread hf6; obtain rfl := harg7.eq_unread hf7; obtain rfl := harg14.eq_unread hf14; obtain rfl := harg15.eq_unread hf15; obtain rfl := harg16.eq_unread hf16
  sl_exec
  sl_step
  unfold part2_run.sl.v55 part2_run.sl.H17_1
  simp only [read_topRows, read_botRows, read_leftCols, read_rightCols, Loads.load_whole, Loads.reload_whole, Loads.store_whole, Memref.IsWhole.read_unread]
  iapply Hk
  isplitl [H2]
  · iexists _; isplitr; swap; · iexact H2
    ipureintro; exact harg2.read_unread _
  isplitl [H6]
  · iexists _; isplitr; swap; · iexact H6
    ipureintro; exact harg6.read_unread _
  isplitl [H7]
  · iexists _; isplitr; swap; · iexact H7
    ipureintro; exact harg7.read_unread _
  isplitl [H14]
  · iexists _; isplitr; swap; · iexact H14
    ipureintro; exact harg14.read_unread _
  isplitl [H15]
  · iexists _; isplitr; swap; · iexact H15
    ipureintro; exact read_stack (F := F) _ _ _ _
  isplitl [H16]
  · iexists _; isplitr; swap; · iexact H16
    ipureintro; exact harg16.read_unread _
  iexists _; isplitr; swap; · iexact H17
  ipureintro; exact Loads.store_whole _ _ _ _ _

/-- The third stretch: the clause states of the second round, and the messages from them. -/
theorem part3_run (c : Dev nD) (q : Vec F S4096x16 .f32) (w : Vec F S16x16 .f32) (x2 : Vec F S16x16 .f32) (x3 : Vec F S1x16 .f32) (x4 : Vec F S16x16 .f32)
    (X : Vec F S4096x4096 .bf16) (g : Vec F S4096x16 .f32) (r : Vec F S4096x16 .f32) (E : Set ℕ) (K : (Σ' (_ : Vec F S4096x16 .f32), Vec F S16x16 .f32) → sProp 𝕄) :
    iprop(owns (c : Thread nD τ) arg3 fullShare x2
        ∗ owns (c : Thread nD τ) arg4 fullShare x3
        ∗ owns (c : Thread nD τ) arg5 fullShare x4
        ∗ owns (c : Thread nD τ) arg14 fullShare X
        ∗ owns (c : Thread nD τ) arg15 fullShare g
        ∗ (∃ d, owns (c : Thread nD τ) arg16 fullShare d)
        ∗ owns (c : Thread nD τ) arg17 fullShare r
        ∗ (iprop(owns (c : Thread nD τ) arg3 fullShare x2
            ∗ owns (c : Thread nD τ) arg4 fullShare x3
            ∗ owns (c : Thread nD τ) arg5 fullShare x4
            ∗ owns (c : Thread nD τ) arg14 fullShare X
            ∗ owns (c : Thread nD τ) arg15 fullShare (stack (k0_pay17 (k0_pay15 q w g x2 x3) (topRows X)) (k0_pay18 (k0_pay15 q w g x2 x3) (botRows X)))
            ∗ owns (c : Thread nD τ) arg16 fullShare (k0_pay15 q w g x2 x3)
            ∗ owns (c : Thread nD τ) arg17 fullShare r) -∗ K ⟨r, x4⟩))
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w) K := by
  simp only [k0_part3_eq_skeleton]; unfold k0_part3_skel
  unfold owns
  iintro ⟨⟨%f3, %hf3, H3⟩, ⟨%f4, %hf4, H4⟩, ⟨%f5, %hf5, H5⟩, ⟨%f14, %hf14, H14⟩, ⟨%f15, %hf15, H15⟩, ⟨%d16, %f16, -, H16⟩, ⟨%f17, %hf17, H17⟩, Hk⟩
  obtain rfl := harg3.eq_unread hf3; obtain rfl := harg4.eq_unread hf4; obtain rfl := harg5.eq_unread hf5; obtain rfl := harg14.eq_unread hf14; obtain rfl := harg15.eq_unread hf15; obtain rfl := harg17.eq_unread hf17
  sl_exec
  sl_step
  unfold part3_run.sl.v85 part3_run.sl.H16_1
  simp only [read_topRows, read_botRows, read_leftCols, read_rightCols, Loads.load_whole, Loads.reload_whole, Loads.store_whole, Memref.IsWhole.read_unread]
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H14]
  · iexists _; isplitr; swap; · iexact H14
    ipureintro; exact harg14.read_unread _
  isplitl [H15]
  · iexists _; isplitr; swap; · iexact H15
    ipureintro; exact read_stack (F := F) _ _ _ _
  isplitl [H16]
  · iexists _; isplitr; swap; · iexact H16
    ipureintro; exact Loads.store_whole _ _ _ _ _
  iexists _; isplitr; swap; · iexact H17
  ipureintro; exact harg17.read_unread _

/-- The last stretch: the variable states of the second round and the two output layers. -/
theorem part4_run (c : Dev nD) (r : Vec F S4096x16 .f32) (w : Vec F S16x16 .f32) (x5 : Vec F S16x16 .f32) (x6 : Vec F S1x16 .f32) (x7 : Vec F S16x16 .f32) (x8 : Vec F S1x16 .f32)
    (x9 : Vec F S16x128 .f32) (x10 : Vec F S1x128 .f32) (g : Vec F S4096x16 .f32) (E : Set ℕ) (K : FVec F S4096x128 .f32 → sProp 𝕄) :
    iprop(owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg15 fullShare g
        ∗ (∃ d, owns (c : Thread nD τ) arg17 fullShare d)
        ∗ (iprop(owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg15 fullShare g
            ∗ owns (c : Thread nD τ) arg17 fullShare (k0_pay19 r w g x5 x6)) -∗ K (k0_pay20 (k0_pay19 r w g x5 x6) x7 x8 x9 x10)))
      ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 r w) K := by
  simp only [k0_part4_eq_skeleton]; unfold k0_part4_skel
  unfold owns
  iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f15, %hf15, H15⟩, ⟨%d17, %f17, -, H17⟩, Hk⟩
  obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg15.eq_unread hf15
  sl_exec
  sl_step
  unfold part4_run.sl.v115 part4_run.sl.H17_1
  simp only [read_topRows, read_botRows, read_leftCols, read_rightCols, Loads.load_whole, Loads.reload_whole, Loads.store_whole, Memref.IsWhole.read_unread]
  iapply Hk
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H15]
  · iexists _; isplitr; swap; · iexact H15
    ipureintro; exact harg15.read_unread _
  iexists _; isplitr; swap; · iexact H17
  ipureintro; exact Loads.store_whole _ _ _ _ _

end Cert.KernelIdeal.Run

end
-- ==== Proof.Run.KICases.lean ====
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Run.KIParts
public import Idealize.ShloMosaic.Lib.Pointwise.Index
public import Idealize.ShloMosaic.Lib.Pipeline.FrameBody
public import Idealize.ShloMosaic.Lib.WritesUnit
public import Idealize.ShloMosaic.Lib.Ring
public import Idealize.ShloMosaic.Lib.VecWindow
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions of the body, from the grid coordinate -/

/-- The body is in its load phase. -/
abbrev loading (i : grid0.Coords) : Prop := k0_cond1 i = 1#1
/-- The first block of rows is being loaded. -/
abbrev opening (i : grid0.Coords) : Prop :=
  (Scalar.cmpi .ne (Scalar.extui (Scalar.cmpi .eq (BitVec.ofNat 32 (i 0).val) 0#32)) 0#32) = 1#1
/-- A later block of rows is being loaded. -/
abbrev adding (i : grid0.Coords) : Prop :=
  (Scalar.cmpi .ne (Scalar.extui (Scalar.cmpi .sgt (BitVec.ofNat 32 (i 0).val) 0#32)) 0#32) = 1#1
/-- The body is in its compute phase. -/
abbrev computing (i : grid0.Coords) : Prop := k0_cond4 i = 1#1

/-- The adjacency scratch after a block of 256 rows, rounded to bf16, is stored at the rows of grid point `i`. -/
abbrev loadRows (i : grid0.Coords) (X : Vec F S4096x4096 .bf16) (x0 : Vec F S256x4096 .f32) : Vec F S4096x4096 .bf16 :=
  VecWindow.put X (k0_off1 i) S256x4096.size (k0_pay1 x0)

/-! ## The load phase -/

variable (i : grid0.Coords)
  (arg1 : Memref sig .tc .vmem S256x4096 .f32) (harg1 : arg1.IsWhole)
  (arg2 : Memref sig .tc .vmem S16x16 .f32) (harg2 : arg2.IsWhole)
  (arg3 : Memref sig .tc .vmem S16x16 .f32) (harg3 : arg3.IsWhole)
  (arg4 : Memref sig .tc .vmem S1x16 .f32) (harg4 : arg4.IsWhole)
  (arg5 : Memref sig .tc .vmem S16x16 .f32) (harg5 : arg5.IsWhole)
  (arg6 : Memref sig .tc .vmem S16x16 .f32) (harg6 : arg6.IsWhole)
  (arg7 : Memref sig .tc .vmem S1x16 .f32) (harg7 : arg7.IsWhole)
  (arg8 : Memref sig .tc .vmem S16x16 .f32) (harg8 : arg8.IsWhole)
  (arg9 : Memref sig .tc .vmem S1x16 .f32) (harg9 : arg9.IsWhole)
  (arg10 : Memref sig .tc .vmem S16x128 .f32) (harg10 : arg10.IsWhole)
  (arg11 : Memref sig .tc .vmem S1x128 .f32) (harg11 : arg11.IsWhole)
  (arg12 : Memref sig .tc .vmem S4096x128 .f32) (harg12 : arg12.IsWhole)
  (arg13 : Memref sig .tc .vmem S4096x128 .f32) (harg13 : arg13.IsWhole)
  (arg14 : Memref sig .tc .vmem S4096x4096 .bf16) (harg14 : arg14.IsWhole)
  (arg15 : Memref sig .tc .vmem S4096x16 .f32) (harg15 : arg15.IsWhole)
  (arg16 : Memref sig .tc .vmem S4096x16 .f32) (harg16 : arg16.IsWhole)
  (arg17 : Memref sig .tc .vmem S4096x16 .f32) (harg17 : arg17.IsWhole)
  (arg18 : Memref sig .tc .vmem S1x4096 .f32) (harg18 : arg18.IsWhole)

/-- At the first point the body stores the first block of rows and starts the column sums with its own. -/
theorem open_run (c : Dev nD) (h0 : loading i) (h1 : opening i) (h2 : ¬adding i) (h3 : ¬computing i)
    (x0 : Vec F S256x4096 .f32) (X : Vec F S4096x4096 .bf16) (E : Set ℕ) (K : PUnit → sProp 𝕄) :
    iprop(owns (c : Thread nD τ) arg1 fullShare x0
        ∗ owns (c : Thread nD τ) arg14 fullShare X
        ∗ (∃ d, owns (c : Thread nD τ) arg18 fullShare d)
        ∗ (iprop(owns (c : Thread nD τ) arg1 fullShare x0
            ∗ owns (c : Thread nD τ) arg14 fullShare (loadRows i X x0)
            ∗ owns (c : Thread nD τ) arg18 fullShare (k0_pay3 x0)) -∗ K ⟨⟩))
      ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__main_kernel_eq_skeleton]; unfold cc0__main_kernel_skel
  unfold owns
  iintro ⟨⟨%f1, %hf1, H1⟩, ⟨%f14, %hf14, H14⟩, ⟨%d18, %f18, -, H18⟩, Hk⟩
  obtain rfl := harg1.eq_unread hf1; obtain rfl := harg14.eq_unread hf14
  sl_exec (disch := first | sl_exact h0 | sl_exact h1 | sl_exact h2 | sl_exact h3)
  sl_step
  simp only [Loads.load_whole, Loads.reload_whole, Memref.IsWhole.read_unread]
  iapply Hk
  isplitl [H1]
  · iexists _; isplitr; swap; · iexact H1
    ipureintro; exact harg1.read_unread _
  isplitl [H14]
  · iexists _; isplitr; swap; · iexact H14
    ipureintro; exact (View.read_writes_cons_put _ _ _ _ _ rfl).trans (by rw [View.writes_nil, harg14.read_unread])
  iexists _; isplitr; swap; · iexact H18
  ipureintro; exact Loads.store_whole _ _ _ _ _

/-- At the later points of the load phase the body stores its block of rows and adds the sums of its columns to the running ones. -/
theorem add_run (c : Dev nD) (h0 : loading i) (h1 : ¬opening i) (h2 : adding i) (h3 : ¬computing i)
    (x0 : Vec F S256x4096 .f32) (X : Vec F S4096x4096 .bf16) (s : Vec F S1x4096 .f32) (E : Set ℕ) (K : PUnit → sProp 𝕄) :
    iprop(owns (c : Thread nD τ) arg1 fullShare x0
        ∗ owns (c : Thread nD τ) arg14 fullShare X
        ∗ owns (c : Thread nD τ) arg18 fullShare s
        ∗ (iprop(owns (c : Thread nD τ) arg1 fullShare x0
            ∗ owns (c : Thread nD τ) arg14 fullShare (loadRows i X x0)
            ∗ owns (c : Thread nD τ) arg18 fullShare (k0_pay4 x0 s)) -∗ K ⟨⟩))
      ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__main_kernel_eq_skeleton]; unfold cc0__main_kernel_skel
  unfold owns
  iintro ⟨⟨%f1, %hf1, H1⟩, ⟨%f14, %hf14, H14⟩, ⟨%f18, %hf18, H18⟩, Hk⟩
  obtain rfl := harg1.eq_unread hf1; obtain rfl := harg14.eq_unread hf14; obtain rfl := harg18.eq_unread hf18
  sl_exec (disch := first | sl_exact h0 | sl_exact h1 | sl_exact h2 | sl_exact h3)
  sl_step
  simp only [Loads.load_whole, Loads.reload_whole, Memref.IsWhole.read_unread]
  iapply Hk
  isplitl [H1]
  · iexists _; isplitr; swap; · iexact H1
    ipureintro; exact harg1.read_unread _
  isplitl [H14]
  · iexists _; isplitr; swap; · iexact H14
    ipureintro; exact (View.read_writes_cons_put _ _ _ _ _ rfl).trans (by rw [View.writes_nil, harg14.read_unread])
  iexists _; isplitr; swap; · iexact H18
  ipureintro; exact Loads.store_whole _ _ _ _ _

/-! ## The compute phase -/

section Values

variable (x1 x2 : Vec F S16x16 .f32) (x3 : Vec F S1x16 .f32) (x4 x5 : Vec F S16x16 .f32) (x6 : Vec F S1x16 .f32) (x7 : Vec F S16x16 .f32)
  (x8 : Vec F S1x16 .f32) (x9 : Vec F S16x128 .f32) (x10 : Vec F S1x128 .f32) (x11 : Vec F S4096x128 .f32)
  (X : Vec F S4096x4096 .bf16) (s : Vec F S1x4096 .f32)

/-- The clause states after the first round, from the column sums `s`. -/
abbrev clause1 : Vec F S4096x16 .f32 := k0_pay6 x2 s x3
/-- The messages the adjacency `X` carries from the first clause states. -/
abbrev toVars1 : Vec F S4096x16 .f32 :=
  stack (k0_pay8 (clause1 x2 x3 s) (topRows X)) (k0_pay9 (clause1 x2 x3 s) (botRows X))
/-- The variable states after the first round. -/
abbrev vars1 : Vec F S4096x16 .f32 := k0_pay11 (k0_pay10 x4) (toVars1 x2 x3 X s) x5 x6
/-- The messages the transposed adjacency carries from the first variable states. -/
abbrev toClauses2 : Vec F S4096x16 .f32 :=
  stack (k0_pay13 (vars1 x2 x3 x4 x5 x6 X s) (leftCols X)) (k0_pay14 (vars1 x2 x3 x4 x5 x6 X s) (rightCols X))
/-- The clause states after the second round. -/
abbrev clause2 : Vec F S4096x16 .f32 := k0_pay15 (clause1 x2 x3 s) x1 (toClauses2 x2 x3 x4 x5 x6 X s) x2 x3
/-- The messages the adjacency carries from the second clause states. -/
abbrev toVars2 : Vec F S4096x16 .f32 :=
  stack (k0_pay17 (clause2 x1 x2 x3 x4 x5 x6 X s) (topRows X)) (k0_pay18 (clause2 x1 x2 x3 x4 x5 x6 X s) (botRows X))
/-- The variable states after the second round. -/
abbrev vars2 : Vec F S4096x16 .f32 :=
  k0_pay19 (vars1 x2 x3 x4 x5 x6 X s) x4 (toVars2 x1 x2 x3 x4 x5 x6 X s) x5 x6
/-- The block of results: the logits of the second round's variable states with the noise, through the logistic function. -/
abbrev results : Vec F S4096x128 .f32 :=
  k0_pay5 (k0_pay20 (vars2 x1 x2 x3 x4 x5 x6 X s) x7 x8 x9 x10) x11

end Values

/-- At the last point the body runs the two rounds over what the scratch holds and stores the block of results. -/
theorem compute_run (c : Dev nD) (h0 : ¬loading i) (h3 : computing i)
    (x1 x2 : Vec F S16x16 .f32) (x3 : Vec F S1x16 .f32) (x4 x5 : Vec F S16x16 .f32) (x6 : Vec F S1x16 .f32) (x7 : Vec F S16x16 .f32)
    (x8 : Vec F S1x16 .f32) (x9 : Vec F S16x128 .f32) (x10 : Vec F S1x128 .f32) (x11 : Vec F S4096x128 .f32)
    (X : Vec F S4096x4096 .bf16) (s : Vec F S1x4096 .f32) (E : Set ℕ) (K : PUnit → sProp 𝕄) :
    iprop(owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ (∃ d, owns (c : Thread nD τ) arg13 fullShare d)
        ∗ owns (c : Thread nD τ) arg14 fullShare X
        ∗ (∃ d, owns (c : Thread nD τ) arg15 fullShare d)
        ∗ (∃ d, owns (c : Thread nD τ) arg16 fullShare d)
        ∗ (∃ d, owns (c : Thread nD τ) arg17 fullShare d)
        ∗ owns (c : Thread nD τ) arg18 fullShare s
        ∗ (iprop(owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare (results x1 x2 x3 x4 x5 x6 x7 x8 x9 x10 x11 X s)
            ∗ owns (c : Thread nD τ) arg14 fullShare X
            ∗ (∃ d, owns (c : Thread nD τ) arg15 fullShare d)
            ∗ (∃ d, owns (c : Thread nD τ) arg16 fullShare d)
            ∗ (∃ d, owns (c : Thread nD τ) arg17 fullShare d)
            ∗ owns (c : Thread nD τ) arg18 fullShare s) -∗ K ⟨⟩))
      ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__main_kernel_eq_skeleton]; unfold cc0__main_kernel_skel
  rw [dif_neg h0, dif_pos h3]
  simp only [bind_assoc, pure_bind, wp_bind]
  iintro ⟨H2, H3, H4, H5, H6, H7, H8, H9, H10, H11, H12, H13, H14, H15, H16, H17, H18, Hk⟩
  iapply (part1_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c x2 x3 x4 X s E _)
  isplitl [H3]; · iexact H3
  isplitl [H4]; · iexact H4
  isplitl [H5]; · iexact H5
  isplitl [H14]; · iexact H14
  isplitl [H15]; · iexact H15
  isplitl [H16]; · iexact H16
  isplitl [H18]; · iexact H18
  iintro ⟨H3, H4, H5, H14, H15, H16, H18⟩
  iapply (part2_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c (k0_pay10 x4) x1 x5 x6 X (toVars1 x2 x3 X s) (clause1 x2 x3 s) E _)
  isplitl [H2]; · iexact H2
  isplitl [H6]; · iexact H6
  isplitl [H7]; · iexact H7
  isplitl [H14]; · iexact H14
  isplitl [H15]; · iexact H15
  isplitl [H16]; · iexact H16
  isplitl [H17]; · iexact H17
  iintro ⟨H2, H6, H7, H14, H15, H16, H17⟩
  iapply (part3_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c (clause1 x2 x3 s) x1 x2 x3 x4 X (toClauses2 x2 x3 x4 x5 x6 X s) (vars1 x2 x3 x4 x5 x6 X s) E _)
  isplitl [H3]; · iexact H3
  isplitl [H4]; · iexact H4
  isplitl [H5]; · iexact H5
  isplitl [H14]; · iexact H14
  isplitl [H15]; · iexact H15
  isplitl [H16]; · iexists _; iexact H16
  isplitl [H17]; · iexact H17
  iintro ⟨H3, H4, H5, H14, H15, H16, H17⟩
  iapply (part4_run i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c (vars1 x2 x3 x4 x5 x6 X s) x4 x5 x6 x7 x8 x9 x10 (toVars2 x1 x2 x3 x4 x5 x6 X s) E _)
  isplitl [H6]; · iexact H6
  isplitl [H7]; · iexact H7
  isplitl [H8]; · iexact H8
  isplitl [H9]; · iexact H9
  isplitl [H10]; · iexact H10
  isplitl [H11]; · iexact H11
  isplitl [H15]; · iexact H15
  isplitl [H17]; · iexists _; iexact H17
  iintro ⟨H6, H7, H8, H9, H10, H11, H15, H17⟩
  unfold owns
  icases H12 with ⟨%f12, %hf12, H12⟩; icases H13 with ⟨%d13, %f13, -, H13⟩
  obtain rfl := harg12.eq_unread hf12
  sl_exec
  sl_step
  unfold compute_run.sl.r
  simp only [Loads.load_whole, Memref.IsWhole.read_unread]
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _; isplitr; swap; · iexact H12
    ipureintro; exact harg12.read_unread _
  isplitl [H13]
  · iexists _; isplitr; swap; · iexact H13
    ipureintro; exact Loads.store_whole _ _ _ _ _
  isplitl [H14]
  · iexact H14
  isplitl [H15]
  · iexists _; iexact H15
  isplitl [H16]
  · iexists _; iexact H16
  isplitl [H17]
  · iexists _; iexact H17
  iexact H18

end Cert.KernelIdeal.Run

end
-- ==== Proof.Run.KIRun.lean ====
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Run.KICases
public import Idealize.ShloMosaic.Lib.Pipeline.FrameSuffix
public import Idealize.ShloMosaic.Lib.Claim
public import Idealize.ShloMosaic.Lib.WordCmp
public import Idealize.ShloMosaic.Lib.Pointwise.Index
public import Idealize.ShloMosaic.Lib.Pipeline.FrameBody
public import Idealize.ShloMosaic.Lib.WritesUnit
public import Idealize.ShloMosaic.Lib.Ring
public import Idealize.ShloMosaic.Lib.VecWindow
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The phases, by the number of the grid point -/

/-- A block is stored exactly at the first sixteen points. -/
theorem loading_iff : ∀ t : Fin cfg0.N, loading (grid0.coords t) ↔ t.val < 16 :=
  (by decide +kernel : ∀ t : Fin grid0.N, loading (grid0.coords t) ↔ t.val < 16)
/-- The column sums are started exactly at the first point. -/
theorem opening_iff : ∀ t : Fin cfg0.N, opening (grid0.coords t) ↔ t.val = 0 :=
  (by decide +kernel : ∀ t : Fin grid0.N, opening (grid0.coords t) ↔ t.val = 0)
/-- The column sums are added to exactly away from the first point. -/
theorem adding_iff : ∀ t : Fin cfg0.N, adding (grid0.coords t) ↔ t.val ≠ 0 :=
  (by decide +kernel : ∀ t : Fin grid0.N, adding (grid0.coords t) ↔ t.val ≠ 0)
/-- The results are computed exactly at point 16. -/
theorem computing_iff : ∀ t : Fin cfg0.N, computing (grid0.coords t) ↔ t.val = 16 :=
  (by decide +kernel : ∀ t : Fin grid0.N, computing (grid0.coords t) ↔ t.val = 16)

/-- In the load phase the stores go to rows from `256 * t` on. -/
theorem off_eq : ∀ t : Fin cfg0.N, t.val < 16 → k0_off1 (grid0.coords t) = ![256 * t.val, 0] :=
  (by decide +kernel : ∀ t : Fin grid0.N, t.val < 16 → k0_off1 (grid0.coords t) = ![256 * t.val, 0])

/-- The output window takes no part before the last point, -/
theorem out_idle : ∀ t : Fin cfg0.N, t.val < 16 → cfg0.idle 12 (grid0.coords t) = true := by decide +kernel
/-- is not written back before it, -/
theorem out_kept : ∀ t : Fin cfg0.N, t.val < 16 → (cfg0.win 12).flush t = false := by decide +kernel
/-- and takes part at it. -/
theorem out_live : ∀ t : Fin cfg0.N, ¬t.val < 16 → cfg0.idle 12 (grid0.coords t) = false := by decide +kernel

/-! ## What the scratch holds -/

/-- The block of adjacency rows staged at point `t`. -/
def rowBlock (c : Dev nD) (t : Fin cfg0.N) : Vec F S256x4096 .f32 := iblk m c 0 t

/-- A row number of the adjacency, divided by the 256 rows of a block, is a grid point. -/
theorem block_lt (y : S4096x4096.Idx) : (y 0).val / 256 < cfg0.N := by
  have h : (y 0).val < 4096 := (y 0).isLt
  have hN : cfg0.N = 17 := N_0
  omega

/-- The whole adjacency in bf16, each row read from the block that brings it. -/
def adj (c : Dev nD) : Vec F S4096x4096 .bf16 := fun y =>
  k0_pay1 (rowBlock m c ⟨(y 0).val / 256, block_lt y⟩) (ix2 ⟨(y 0).val % 256, Nat.mod_lt _ (by omega)⟩ (y 1))

/-- The rows below `256 * n` of `X` are those of the adjacency. -/
def Loaded (c : Dev nD) (n : ℕ) (X : Vec F S4096x4096 .bf16) : Prop := ∀ y : S4096x4096.Idx, (y 0).val < 256 * n → X y = adj m c y

/-- Storing the block of point `t` extends the loaded rows by 256. -/
theorem Loaded.step {c : Dev nD} (t : Fin cfg0.N) (ht : t.val < 16) {X : Vec F S4096x4096 .bf16} (hX : Loaded m c t.val X) :
    Loaded m c (t.val + 1) (loadRows (grid0.coords t) X (rowBlock m c t)) := by
  intro y hy
  unfold loadRows VecWindow.put
  rw [off_eq t ht]
  by_cases hlo : 256 * t.val ≤ (y 0).val
  · have h1 : (y 1).val < 4096 := (y 1).isLt
    have hin : ∀ a, (![256 * t.val, 0] : Fin 2 → ℕ) a ≤ (y a).val ∧ (y a).val < (![256 * t.val, 0] : Fin 2 → ℕ) a + S256x4096.size a := by
      intro a
      fin_cases a
      · exact ⟨hlo, by show (y 0).val < 256 * t.val + 256; omega⟩
      · exact ⟨Nat.zero_le _, by show (y 1).val < 0 + 4096; omega⟩
    rw [dif_pos hin]
    have hq : t = ⟨(y 0).val / 256, block_lt y⟩ := Fin.ext (by show t.val = (y 0).val / 256; omega)
    unfold adj
    rw [← hq]
    refine congrArg (k0_pay1 (rowBlock m c t)) (funext fun a => ?_)
    fin_cases a
    · exact Fin.ext (by show (y 0).val - 256 * t.val = (y 0).val % 256; omega)
    · exact Fin.ext (by show (y 1).val - 0 = (y 1).val; omega)
  · rw [dif_neg (fun h => hlo (h 0).1)]
    exact hX y (by omega)

/-- Sixteen blocks are the whole adjacency. -/
theorem Loaded.all {c : Dev nD} {X : Vec F S4096x4096 .bf16} (hX : Loaded m c 16 X) : X = adj m c :=
  funext fun y => hX y (by have h : (y 0).val < 4096 := (y 0).isLt; omega)

/-- The running column sums after point `n`: started by the first block, increased by the next fifteen, then kept. -/
def sums (c : Dev nD) : ℕ → Vec F S1x4096 .f32
  | 0 => k0_pay3 (rowBlock m c ⟨0, by rw [show cfg0.N = 17 from N_0]; omega⟩)
  | n + 1 => if h : n + 1 < 16 then k0_pay4 (rowBlock m c ⟨n + 1, by rw [show cfg0.N = 17 from N_0]; omega⟩) (sums c n) else sums c n

/-- After the first point the sums are those of its block. -/
theorem sums_first {c : Dev nD} (t : Fin cfg0.N) (h : t.val = 0) : sums m c t.val = k0_pay3 (rowBlock m c t) := by
  obtain ⟨n, hn⟩ := t
  obtain rfl : n = 0 := h
  rfl

/-- After a later point that stores a block, the sums are the previous ones and those of its block. -/
theorem sums_next {c : Dev nD} (n : ℕ) (t : Fin cfg0.N) (ht : t.val = n + 1) (h : t.val < 16) :
    sums m c t.val = k0_pay4 (rowBlock m c t) (sums m c n) := by
  obtain ⟨k, hk⟩ := t
  obtain rfl : k = n + 1 := ht
  exact dif_pos h

/-- The last point leaves the sums as they were. -/
theorem sums_last {c : Dev nD} : sums m c 16 = sums m c 15 := dif_neg (show ¬(15 + 1 < 16) by omega)

/-- The block of results computed from the small operands staged at `t`, the whole adjacency and its column sums. -/
def outAt (c : Dev nD) (t : Fin cfg0.N) : Vec F S4096x128 .f32 :=
  results (iblk m c 1 t) (iblk m c 2 t) (iblk m c 3 t) (iblk m c 4 t) (iblk m c 5 t) (iblk m c 6 t) (iblk m c 7 t) (iblk m c 8 t)
    (iblk m c 9 t) (iblk m c 10 t) (iblk m c 11 t) (adj m c) (sums m c 15)

/-! ## The memrefs of a point -/

/-- The staging buffer of window 0 at a point. -/
abbrev stg0 (t : Fin cfg0.N) : Memref sig .tc .vmem S256x4096 .f32 := win0_0.stage (cfg0.slots t 0)
/-- The staging buffer of window 1 at a point. -/
abbrev stg1 (t : Fin cfg0.N) : Memref sig .tc .vmem S16x16 .f32 := win0_1.stage (cfg0.slots t 1)
/-- The staging buffer of window 2 at a point. -/
abbrev stg2 (t : Fin cfg0.N) : Memref sig .tc .vmem S16x16 .f32 := win0_2.stage (cfg0.slots t 2)
/-- The staging buffer of window 3 at a point. -/
abbrev stg3 (t : Fin cfg0.N) : Memref sig .tc .vmem S1x16 .f32 := win0_3.stage (cfg0.slots t 3)
/-- The staging buffer of window 4 at a point. -/
abbrev stg4 (t : Fin cfg0.N) : Memref sig .tc .vmem S16x16 .f32 := win0_4.stage (cfg0.slots t 4)
/-- The staging buffer of window 5 at a point. -/
abbrev stg5 (t : Fin cfg0.N) : Memref sig .tc .vmem S16x16 .f32 := win0_5.stage (cfg0.slots t 5)
/-- The staging buffer of window 6 at a point. -/
abbrev stg6 (t : Fin cfg0.N) : Memref sig .tc .vmem S1x16 .f32 := win0_6.stage (cfg0.slots t 6)
/-- The staging buffer of window 7 at a point. -/
abbrev stg7 (t : Fin cfg0.N) : Memref sig .tc .vmem S16x16 .f32 := win0_7.stage (cfg0.slots t 7)
/-- The staging buffer of window 8 at a point. -/
abbrev stg8 (t : Fin cfg0.N) : Memref sig .tc .vmem S1x16 .f32 := win0_8.stage (cfg0.slots t 8)
/-- The staging buffer of window 9 at a point. -/
abbrev stg9 (t : Fin cfg0.N) : Memref sig .tc .vmem S16x128 .f32 := win0_9.stage (cfg0.slots t 9)
/-- The staging buffer of window 10 at a point. -/
abbrev stg10 (t : Fin cfg0.N) : Memref sig .tc .vmem S1x128 .f32 := win0_10.stage (cfg0.slots t 10)
/-- The staging buffer of window 11 at a point. -/
abbrev stg11 (t : Fin cfg0.N) : Memref sig .tc .vmem S4096x128 .f32 := win0_11.stage (cfg0.slots t 11)
/-- The staging buffer of window 12 at a point. -/
abbrev stg12 (t : Fin cfg0.N) : Memref sig .tc .vmem S4096x128 .f32 := win0_12.stage (cfg0.slots t 12)
/-- The stored adjacency. -/
abbrev rowsRef : Memref sig .tc .vmem S4096x4096 .bf16 := Memref.whole cc0_scratch0
/-- The messages of the current step. -/
abbrev msgRef : Memref sig .tc .vmem S4096x16 .f32 := Memref.whole cc0_scratch1
/-- The clause states. -/
abbrev clauseRef : Memref sig .tc .vmem S4096x16 .f32 := Memref.whole cc0_scratch2
/-- The variable states. -/
abbrev varRef : Memref sig .tc .vmem S4096x16 .f32 := Memref.whole cc0_scratch3
/-- The column sums. -/
abbrev sumRef : Memref sig .tc .vmem S1x4096 .f32 := Memref.whole cc0_scratch4

/-- The region's invariant before the first point: every scratch buffer at some contents, and the generator register. -/
theorem start_eq (c : Dev nD) : (Pipeline.ΦA spec0 c : sProp 𝕄)
    = iprop(iprop((∃ d, owns (c : Thread nD τ) rowsRef fullShare d) ∗ (∃ d, owns (c : Thread nD τ) msgRef fullShare d) ∗ (∃ d, owns (c : Thread nD τ) clauseRef fullShare d) ∗ (∃ d, owns (c : Thread nD τ) varRef fullShare d) ∗ (∃ d, owns (c : Thread nD τ) sumRef fullShare d))
      ∗ (∃ r, prngReg c r)) := by
  unfold Pipeline.ΦA; rw [scopedRest0_eq]; simp only [rowsRef, msgRef, clauseRef, varRef, sumRef, owns_whole]; try rfl

/-- The invariant after point `n`: the adjacency scratch loaded up to that point's rows, the column sums at theirs. -/
def afterPoint (c : Dev nD) (n : ℕ) : sProp 𝕄 :=
  iprop(iprop((∃ X, ⌜Loaded m c (min (n + 1) 16) X⌝ ∗ owns (c : Thread nD τ) rowsRef fullShare X)
      ∗ (∃ d, owns (c : Thread nD τ) msgRef fullShare d) ∗ (∃ d, owns (c : Thread nD τ) clauseRef fullShare d) ∗ (∃ d, owns (c : Thread nD τ) varRef fullShare d)
      ∗ owns (c : Thread nD τ) sumRef fullShare (sums m c n))
    ∗ (∃ r, prngReg c r))

/-- The invariant before point `n`. -/
def inv (c : Dev nD) : (n : ℕ) → n ≤ cfg0.N → sProp 𝕄
  | 0, _ => Pipeline.ΦA spec0 c
  | n + 1, _ => afterPoint m c n

/-- Before the first point the scratch holds anything. -/
theorem inv_first (c : Dev nD) (n : ℕ) (h : n ≤ cfg0.N) (hz : n = 0) : inv m c n h = Pipeline.ΦA spec0 c := by subst hz; rfl
/-- Before a later point the scratch is as the previous point left it. -/
theorem inv_later (c : Dev nD) (n k : ℕ) (h : n ≤ cfg0.N) (hz : n = k + 1) : inv m c n h = afterPoint m c k := by subst hz; rfl

/-! ## The proof data -/

/-- The proof data: each input's buffer keeps its block, the output's holds `outAt`, nothing is owed, every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ t := inv m c t.val (Nat.le_of_lt_succ t.isLt)
  q _ := fullShare
  owed _ := 0

/-- Every window's array starts with the contents it has when the grid is entered. -/
theorem A_eq (c : Dev nD) (w : Fin cfg0.W) : (dats m 0 c).A w = V m c (Pipeline.arrRef spec0 w) := by dsimp only [dats]

/-- What holds before a point, by the number of the point. -/
theorem inv_start (c : Dev nD) (t : Fin cfg0.N) : (dats m 0 c).Φ t.castSucc = inv m c t.val (Nat.le_of_lt t.isLt) := by
  dsimp only [dats]; exact Pipeline.Dat.Φ_castSucc (inv m c) t

/-- What holds after a point, by the number of the point. -/
theorem inv_end (c : Dev nD) (t : Fin cfg0.N) : (dats m 0 c).Φ t.succ = afterPoint m c t.val := rfl

/-- After a point window 0 holds its block, unchanged. -/
theorem after_0 (c : Dev nD) (t : Fin cfg0.N) : (dats m 0 c).after 0 t = iblk m c 0 t := by dsimp only [dats]
/-- After a point window 1 holds its block, unchanged. -/
theorem after_1 (c : Dev nD) (t : Fin cfg0.N) : (dats m 0 c).after 1 t = iblk m c 1 t := by dsimp only [dats]
/-- After a point window 2 holds its block, unchanged. -/
theorem after_2 (c : Dev nD) (t : Fin cfg0.N) : (dats m 0 c).after 2 t = iblk m c 2 t := by dsimp only [dats]
/-- After a point window 3 holds its block, unchanged. -/
theorem after_3 (c : Dev nD) (t : Fin cfg0.N) : (dats m 0 c).after 3 t = iblk m c 3 t := by dsimp only [dats]
/-- After a point window 4 holds its block, unchanged. -/
theorem after_4 (c : Dev nD) (t : Fin cfg0.N) : (dats m 0 c).after 4 t = iblk m c 4 t := by dsimp only [dats]
/-- After a point window 5 holds its block, unchanged. -/
theorem after_5 (c : Dev nD) (t : Fin cfg0.N) : (dats m 0 c).after 5 t = iblk m c 5 t := by dsimp only [dats]
/-- After a point window 6 holds its block, unchanged. -/
theorem after_6 (c : Dev nD) (t : Fin cfg0.N) : (dats m 0 c).after 6 t = iblk m c 6 t := by dsimp only [dats]
/-- After a point window 7 holds its block, unchanged. -/
theorem after_7 (c : Dev nD) (t : Fin cfg0.N) : (dats m 0 c).after 7 t = iblk m c 7 t := by dsimp only [dats]
/-- After a point window 8 holds its block, unchanged. -/
theorem after_8 (c : Dev nD) (t : Fin cfg0.N) : (dats m 0 c).after 8 t = iblk m c 8 t := by dsimp only [dats]
/-- After a point window 9 holds its block, unchanged. -/
theorem after_9 (c : Dev nD) (t : Fin cfg0.N) : (dats m 0 c).after 9 t = iblk m c 9 t := by dsimp only [dats]
/-- After a point window 10 holds its block, unchanged. -/
theorem after_10 (c : Dev nD) (t : Fin cfg0.N) : (dats m 0 c).after 10 t = iblk m c 10 t := by dsimp only [dats]
/-- After a point window 11 holds its block, unchanged. -/
theorem after_11 (c : Dev nD) (t : Fin cfg0.N) : (dats m 0 c).after 11 t = iblk m c 11 t := by dsimp only [dats]
/-- What the output window holds after a point: the results. -/
theorem after_12 (c : Dev nD) (t : Fin cfg0.N) : (dats m 0 c).after 12 t = outAt m c t := by dsimp only [dats]

/-- Before a point window 0 holds its block. -/
theorem before_0 (c : Dev nD) (t : Fin cfg0.N) (d) : (dats m 0 c).before 0 t d = iblk m c 0 t :=
  before0_0_of m (dats m 0 c) (A_eq m c 0) (after_0 m c) t d
/-- Before a point window 1 holds its block. -/
theorem before_1 (c : Dev nD) (t : Fin cfg0.N) (d) : (dats m 0 c).before 1 t d = iblk m c 1 t :=
  before0_1_of m (dats m 0 c) (A_eq m c 1) (after_1 m c) t d
/-- Before a point window 2 holds its block. -/
theorem before_2 (c : Dev nD) (t : Fin cfg0.N) (d) : (dats m 0 c).before 2 t d = iblk m c 2 t :=
  before0_2_of m (dats m 0 c) (A_eq m c 2) (after_2 m c) t d
/-- Before a point window 3 holds its block. -/
theorem before_3 (c : Dev nD) (t : Fin cfg0.N) (d) : (dats m 0 c).before 3 t d = iblk m c 3 t :=
  before0_3_of m (dats m 0 c) (A_eq m c 3) (after_3 m c) t d
/-- Before a point window 4 holds its block. -/
theorem before_4 (c : Dev nD) (t : Fin cfg0.N) (d) : (dats m 0 c).before 4 t d = iblk m c 4 t :=
  before0_4_of m (dats m 0 c) (A_eq m c 4) (after_4 m c) t d
/-- Before a point window 5 holds its block. -/
theorem before_5 (c : Dev nD) (t : Fin cfg0.N) (d) : (dats m 0 c).before 5 t d = iblk m c 5 t :=
  before0_5_of m (dats m 0 c) (A_eq m c 5) (after_5 m c) t d
/-- Before a point window 6 holds its block. -/
theorem before_6 (c : Dev nD) (t : Fin cfg0.N) (d) : (dats m 0 c).before 6 t d = iblk m c 6 t :=
  before0_6_of m (dats m 0 c) (A_eq m c 6) (after_6 m c) t d
/-- Before a point window 7 holds its block. -/
theorem before_7 (c : Dev nD) (t : Fin cfg0.N) (d) : (dats m 0 c).before 7 t d = iblk m c 7 t :=
  before0_7_of m (dats m 0 c) (A_eq m c 7) (after_7 m c) t d
/-- Before a point window 8 holds its block. -/
theorem before_8 (c : Dev nD) (t : Fin cfg0.N) (d) : (dats m 0 c).before 8 t d = iblk m c 8 t :=
  before0_8_of m (dats m 0 c) (A_eq m c 8) (after_8 m c) t d
/-- Before a point window 9 holds its block. -/
theorem before_9 (c : Dev nD) (t : Fin cfg0.N) (d) : (dats m 0 c).before 9 t d = iblk m c 9 t :=
  before0_9_of m (dats m 0 c) (A_eq m c 9) (after_9 m c) t d
/-- Before a point window 10 holds its block. -/
theorem before_10 (c : Dev nD) (t : Fin cfg0.N) (d) : (dats m 0 c).before 10 t d = iblk m c 10 t :=
  before0_10_of m (dats m 0 c) (A_eq m c 10) (after_10 m c) t d
/-- Before a point window 11 holds its block. -/
theorem before_11 (c : Dev nD) (t : Fin cfg0.N) (d) : (dats m 0 c).before 11 t d = iblk m c 11 t :=
  before0_11_of m (dats m 0 c) (A_eq m c 11) (after_11 m c) t d

/-- A point leaves the staging buffer of window 0 holding its block. -/
theorem leaves_0 (c : Dev nD) (t : Fin cfg0.N) :
    (dats m 0 c).leavesExact 0 t = owns (c : Thread nD τ) (stg0 t) fullShare (iblk m c 0 t) := by
  unfold Dat.leavesExact; rw [show cfg0.idle 0 (grid0.coords t) = false from rfl, after_0]
/-- A point leaves the staging buffer of window 1 holding its block. -/
theorem leaves_1 (c : Dev nD) (t : Fin cfg0.N) :
    (dats m 0 c).leavesExact 1 t = owns (c : Thread nD τ) (stg1 t) fullShare (iblk m c 1 t) := by
  unfold Dat.leavesExact; rw [show cfg0.idle 1 (grid0.coords t) = false from rfl, after_1]
/-- A point leaves the staging buffer of window 2 holding its block. -/
theorem leaves_2 (c : Dev nD) (t : Fin cfg0.N) :
    (dats m 0 c).leavesExact 2 t = owns (c : Thread nD τ) (stg2 t) fullShare (iblk m c 2 t) := by
  unfold Dat.leavesExact; rw [show cfg0.idle 2 (grid0.coords t) = false from rfl, after_2]
/-- A point leaves the staging buffer of window 3 holding its block. -/
theorem leaves_3 (c : Dev nD) (t : Fin cfg0.N) :
    (dats m 0 c).leavesExact 3 t = owns (c : Thread nD τ) (stg3 t) fullShare (iblk m c 3 t) := by
  unfold Dat.leavesExact; rw [show cfg0.idle 3 (grid0.coords t) = false from rfl, after_3]
/-- A point leaves the staging buffer of window 4 holding its block. -/
theorem leaves_4 (c : Dev nD) (t : Fin cfg0.N) :
    (dats m 0 c).leavesExact 4 t = owns (c : Thread nD τ) (stg4 t) fullShare (iblk m c 4 t) := by
  unfold Dat.leavesExact; rw [show cfg0.idle 4 (grid0.coords t) = false from rfl, after_4]
/-- A point leaves the staging buffer of window 5 holding its block. -/
theorem leaves_5 (c : Dev nD) (t : Fin cfg0.N) :
    (dats m 0 c).leavesExact 5 t = owns (c : Thread nD τ) (stg5 t) fullShare (iblk m c 5 t) := by
  unfold Dat.leavesExact; rw [show cfg0.idle 5 (grid0.coords t) = false from rfl, after_5]
/-- A point leaves the staging buffer of window 6 holding its block. -/
theorem leaves_6 (c : Dev nD) (t : Fin cfg0.N) :
    (dats m 0 c).leavesExact 6 t = owns (c : Thread nD τ) (stg6 t) fullShare (iblk m c 6 t) := by
  unfold Dat.leavesExact; rw [show cfg0.idle 6 (grid0.coords t) = false from rfl, after_6]
/-- A point leaves the staging buffer of window 7 holding its block. -/
theorem leaves_7 (c : Dev nD) (t : Fin cfg0.N) :
    (dats m 0 c).leavesExact 7 t = owns (c : Thread nD τ) (stg7 t) fullShare (iblk m c 7 t) := by
  unfold Dat.leavesExact; rw [show cfg0.idle 7 (grid0.coords t) = false from rfl, after_7]
/-- A point leaves the staging buffer of window 8 holding its block. -/
theorem leaves_8 (c : Dev nD) (t : Fin cfg0.N) :
    (dats m 0 c).leavesExact 8 t = owns (c : Thread nD τ) (stg8 t) fullShare (iblk m c 8 t) := by
  unfold Dat.leavesExact; rw [show cfg0.idle 8 (grid0.coords t) = false from rfl, after_8]
/-- A point leaves the staging buffer of window 9 holding its block. -/
theorem leaves_9 (c : Dev nD) (t : Fin cfg0.N) :
    (dats m 0 c).leavesExact 9 t = owns (c : Thread nD τ) (stg9 t) fullShare (iblk m c 9 t) := by
  unfold Dat.leavesExact; rw [show cfg0.idle 9 (grid0.coords t) = false from rfl, after_9]
/-- A point leaves the staging buffer of window 10 holding its block. -/
theorem leaves_10 (c : Dev nD) (t : Fin cfg0.N) :
    (dats m 0 c).leavesExact 10 t = owns (c : Thread nD τ) (stg10 t) fullShare (iblk m c 10 t) := by
  unfold Dat.leavesExact; rw [show cfg0.idle 10 (grid0.coords t) = false from rfl, after_10]
/-- A point leaves the staging buffer of window 11 holding its block. -/
theorem leaves_11 (c : Dev nD) (t : Fin cfg0.N) :
    (dats m 0 c).leavesExact 11 t = owns (c : Thread nD τ) (stg11 t) fullShare (iblk m c 11 t) := by
  unfold Dat.leavesExact; rw [show cfg0.idle 11 (grid0.coords t) = false from rfl, after_11]
/-- Where the results are computed, the output window's staging buffer is left holding them. -/
theorem leaves_12 (c : Dev nD) (t : Fin cfg0.N) (h : ¬t.val < 16) :
    (dats m 0 c).leavesExact 12 t = owns (c : Thread nD τ) (stg12 t) fullShare (outAt m c t) := by
  unfold Dat.leavesExact; rw [out_live t h, after_12]

/-! ## The body at a point -/

/-- What the body is handed at point `t`. -/
def handed (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d)))

/-- What the body gives back at point `t`. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 1600000 in
/-- At every point the body keeps the invariant and leaves the windows as the proof data say. -/
theorem body_sound (c : Dev nD) (t : Fin cfg0.N) :
    handed m c t ⊢ wp frame (wpE (defs₀ (F := F)) Variants.none c none) Set.univ (bodyAt0 t) (fun _ => returned m c t) := by
  unfold handed returned bodyAt0
  simp only [before_0, before_1, before_2, before_3, before_4, before_5, before_6, before_7, before_8, before_9, before_10, before_11, leaves_0, leaves_1, leaves_2, leaves_3, leaves_4, leaves_5, leaves_6, leaves_7, leaves_8, leaves_9, leaves_10, leaves_11]
  rw [show (dats m 0 c).owesAt () t.succ = (dats m 0 c).owesAt () t.castSucc from rfl, inv_start, inv_end]
  have hN : t.val < 17 := lt_of_lt_of_eq t.isLt (show cfg0.N = 17 from N_0)
  by_cases h : t.val < 16
  · rw [Dat.leavesExact_idle (dats m 0 c) 12 t (out_idle t h) (out_kept t h)]
    have hl := (loading_iff t).mpr h
    have hc : ¬computing (grid0.coords t) := fun e => by have := (computing_iff t).mp e; omega
    by_cases hz : t.val = 0
    · rw [inv_first m c _ _ hz, start_eq]
      unfold afterPoint
      iintro ⟨⟨⟨⟨%X, S0⟩, S1, S2, S3, S4⟩, G⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (open_run (grid0.coords t) _ _ _ _ _ _ _ _ _ _ _ _ _ _ _ _ _ _ _ _ _ _ _ _ _ _ _ _ _ _ _ _ _ _ _ _ c hl ((opening_iff t).mpr hz) (fun e => (adding_iff t).mp e hz) hc (rowBlock m c t) X _ _)
      isplitl [H0]; · iexact H0
      isplitl [S0]; · iexact S0
      isplitl [S4]; · iexact S4
      iintro ⟨H0, S0, S4⟩
      isplitl [S0 S1 S2 S3 S4 G]
      · isplitl [S0 S1 S2 S3 S4]
        · isplitl [S0]
          · iexists _; isplitr; swap; · iexact S0
            ipureintro
            rw [Nat.min_eq_left (by omega)]
            exact Loaded.step m t h (fun y hy => by omega)
          isplitl [S1]; · iexact S1
          isplitl [S2]; · iexact S2
          isplitl [S3]; · iexact S3
          rw [sums_first m t hz]; iexact S4
        iexact G
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    · obtain ⟨n, hn⟩ := Nat.exists_eq_succ_of_ne_zero hz
      rw [inv_later m c _ n _ hn]
      unfold afterPoint
      iintro ⟨⟨⟨⟨%X, %hX, S0⟩, S1, S2, S3, S4⟩, G⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (add_run (grid0.coords t) _ _ _ _ _ _ _ _ _ _ _ _ _ _ _ _ _ _ _ _ _ _ _ _ _ _ _ _ _ _ _ _ _ _ _ _ c hl (fun e => hz ((opening_iff t).mp e)) ((adding_iff t).mpr hz) hc (rowBlock m c t) X (sums m c n) _ _)
      isplitl [H0]; · iexact H0
      isplitl [S0]; · iexact S0
      isplitl [S4]; · iexact S4
      iintro ⟨H0, S0, S4⟩
      isplitl [S0 S1 S2 S3 S4 G]
      · isplitl [S0 S1 S2 S3 S4]
        · isplitl [S0]
          · iexists _; isplitr; swap; · iexact S0
            ipureintro
            rw [Nat.min_eq_left (by omega)]
            refine Loaded.step m t h ?_
            rw [Nat.min_eq_left (by omega), ← Nat.succ_eq_add_one, ← hn] at hX
            exact hX
          isplitl [S1]; · iexact S1
          isplitl [S2]; · iexact S2
          isplitl [S3]; · iexact S3
          rw [sums_next m n t hn h]; iexact S4
        iexact G
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
  · have ht : t.val = 16 := by omega
    rw [leaves_12 m c t h, inv_later m c _ 15 _ ht]
    unfold afterPoint
    iintro ⟨⟨⟨⟨%X, %hX, S0⟩, S1, S2, S3, S4⟩, G⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    obtain rfl : X = adj m c := Loaded.all m hX
    iapply (compute_run (grid0.coords t) _ _ _ _ _ _ _ _ _ _ _ _ _ _ _ _ _ _ _ _ _ _ _ _ _ _ _ _ _ _ _ _ _ _ _ _ c (fun e => h ((loading_iff t).mp e)) ((computing_iff t).mpr ht)
      (iblk m c 1 t) (iblk m c 2 t) (iblk m c 3 t) (iblk m c 4 t) (iblk m c 5 t) (iblk m c 6 t) (iblk m c 7 t) (iblk m c 8 t)
      (iblk m c 9 t) (iblk m c 10 t) (iblk m c 11 t) (adj m c) (sums m c 15) _ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [S0]; · iexact S0
    isplitl [S1]; · iexact S1
    isplitl [S2]; · iexact S2
    isplitl [S3]; · iexact S3
    isplitl [S4]; · iexact S4
    iintro ⟨H1, H2, H3, H4, H5, H6, H7, H8, H9, H10, H11, H12, S0, S1, S2, S3, S4⟩
    isplitl [S0 S1 S2 S3 S4 G]
    · isplitl [S0 S1 S2 S3 S4]
      · isplitl [S0]
        · iexists _; isplitr; swap; · iexact S0
          ipureintro; exact fun y _ => rfl
        isplitl [S1]; · iexact S1
        isplitl [S2]; · iexact S2
        isplitl [S3]; · iexact S3
        rw [ht, sums_last]; iexact S4
      iexact G
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body the table holds at point `t` is `bodyAt0`. -/
theorem body_row (t : Fin cfg0.N) : defs₀ (F := F) .tc cfg0.body (cfg0.bodyArgs t (cfg0.slots t)) = bodyAt0 t := by
  unfold defs₀; rw [Defs.onTc_tc]

/-- The body keeps its obligation at every point. -/
theorem body_obligation (c : Dev nD) : BodyObligation (dats m 0 c) (defs₀ (F := F)) Variants.none () Set.univ := fun t => by
  rw [bigSep_W0, bigSep_W0, body_row]
  exact triple_restated (body_sound m c t) rfl .rfl fun _ => .rfl

/-- The scratch at the start gives what holds before the first point. -/
theorem inv_in (c : Dev nD) : Pipeline.ΦA spec0 c ⊢ (dats m 0 c).Φ 0 := by
  rw [show (dats m 0 c).Φ 0 = Pipeline.ΦA spec0 c from rfl]

/-- What holds after the last point gives the scratch back, its contents forgotten. -/
theorem inv_out (c : Dev nD) : (dats m 0 c).Φ (Fin.last cfg0.N) ⊢ Pipeline.ΦA spec0 c := by
  rw [show (dats m 0 c).Φ (Fin.last cfg0.N) = inv m c cfg0.N le_rfl from rfl, inv_later m c _ 16 _ (show cfg0.N = 16 + 1 from N_0), start_eq]
  unfold afterPoint
  iintro ⟨⟨⟨%X, %hX, S0⟩, S1, S2, S3, S4⟩, G⟩
  isplitl [S0 S1 S2 S3 S4]
  · isplitl [S0]; · iexists _; iexact S0
    isplitl [S1]; · iexact S1
    isplitl [S2]; · iexact S2
    isplitl [S3]; · iexact S3
    iexists _; iexact S4
  iexact G

/-! ## The whole program -/

set_option backward.isDefEq.respectTransparency.types false in
set_option maxHeartbeats 800000 in
/-- Every run of the program ends, with the arrays as the proof data say and every semaphore at zero. -/
theorem run_quiet :
    θ_run defs (onTc (τ := τ) (main (F := F))) (s₀ m ρ)
      (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := inv_in m) (hout := inv_out m)

/-- Every run of the program ends, with the arrays as the proof data say. -/
theorem run_main :
    θ_run defs (onTc (τ := τ) (main (F := F))) (s₀ m ρ)
      (Pipeline.FramePost cfgs (dats m) 0 (Pipeline.afterTail₀ cfgs (dats m) 0 (V0 m) [hostOps1])) :=
  (θ_run defs _ _).mono (fun _ h => h.1) (run_quiet m ρ)

/-- The program ends, leaves its arguments as they were and every semaphore at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_quiet m ρ))

end Cert.KernelIdeal.Run

end
-- ==== Proof.Values.Reference.lean ====
module

public import proofs.«01_k».proof.Proof.Gen.ReferenceIdeal
public import Idealize.ShloMosaic.Lib.Pointwise

@[expose] public section

set_option maxRecDepth 16384

noncomputable section

namespace Cert.ReferenceIdeal.Values

open Cert.ReferenceIdeal Cert.ReferenceIdeal.Gen
open Idealize.ShloMosaic Idealize.ShloMosaic.TcCoe

/-! ## The reference network, round by round -/

/-- The positive part of every entry. -/
def relu (x : FVec Ideal S4096x16 .f32) : FVec Ideal S4096x16 .f32 :=
  maximumf x (broadcastInDim S4096x16 ![] Facts₀.bcast_S_S4096x16 (constant (F := Ideal) S_ .f32 0x00000000#32))

/-- A layer of 32 inputs: the two halves side by side, times the transposed weights, plus the bias, positive part. -/
def layer (W : FVec Ideal S16x32 .f32) (b : FVec Ideal S16 .f32) (x y : FVec Ideal S4096x16 .f32) : FVec Ideal S4096x16 .f32 :=
  relu (addf
    (Host.dotGeneral dot_S4096x32_S32x16_S4096x16_1_0_0_1_n_n none
      (concatenate S4096x32 1 [⟨S4096x16, x⟩, ⟨S4096x16, y⟩] Facts₀.concatenates_S4096x16_S4096x16_S4096x32_d1)
      (transpose S32x16 [1, 0] W Facts₀.transposes_S16x32_S32x16_1_0))
    (broadcastInDim S4096x16 ![0, 1] Facts₀.bcast_S1x16_S4096x16_0_1 (broadcastInDim S1x16 ![1] Facts₀.bcast_S16_S1x16_1 b)))

/-- The adjacency times the states of the clauses. -/
def toVars (A : FVec Ideal S4096x4096 .f32) (C : FVec Ideal S4096x16 .f32) : FVec Ideal S4096x16 .f32 :=
  Host.dotGeneral dot_S4096x4096_S4096x16_S4096x16_1_0_0_1_n_n none A C

/-- The transposed adjacency times the states of the variables. -/
def toClauses (A : FVec Ideal S4096x4096 .f32) (V : FVec Ideal S4096x16 .f32) : FVec Ideal S4096x16 .f32 :=
  Host.dotGeneral dot_S4096x4096_S4096x16_S4096x16_1_0_0_1_n_n none
    (transpose S4096x4096 [1, 0] A Facts₀.transposes_S4096x4096_S4096x4096_1_0) V

/-- The states every variable starts from: all ones. -/
def ones : FVec Ideal S4096x16 .f32 :=
  broadcastInDim S4096x16 ![] Facts₀.bcast_S_S4096x16 (constant (F := Ideal) S_ .f32 0x3F800000#32)

/-- The states every clause starts from: all zeros. -/
def zeros : FVec Ideal S4096x16 .f32 :=
  broadcastInDim S4096x16 ![] Facts₀.bcast_S_S4096x16 (constant (F := Ideal) S_ .f32 0x00000000#32)

/-- The output layers and the sigmoid of the logit plus the noise. -/
def output (Wo : FVec Ideal S16x16 .f32) (bo : FVec Ideal S16 .f32) (Wo2 : FVec Ideal S1x16 .f32) (bo2 : FVec Ideal S1 .f32)
    (noise : FVec Ideal S4096x1 .f32) (V : FVec Ideal S4096x16 .f32) : FVec Ideal S4096x1 .f32 :=
  Host.divf (broadcastInDim S4096x1 ![] Facts₀.bcast_S_S4096x1 (constant (F := Ideal) S_ .f32 0x3F800000#32))
    (addf (broadcastInDim S4096x1 ![] Facts₀.bcast_S_S4096x1 (constant (F := Ideal) S_ .f32 0x3F800000#32))
      (Host.exp (Host.negf (addf (addf
        (Host.dotGeneral dot_S4096x16_S16x1_S4096x1_1_0_0_1_n_n none
          (relu (addf (Host.dotGeneral dot_S4096x16_S16x16_S4096x16_1_0_0_1_n_n none V
              (transpose S16x16 [1, 0] Wo Facts₀.transposes_S16x16_S16x16_1_0))
            (broadcastInDim S4096x16 ![0, 1] Facts₀.bcast_S1x16_S4096x16_0_1 (broadcastInDim S1x16 ![1] Facts₀.bcast_S16_S1x16_1 bo))))
          (transpose S16x1 [1, 0] Wo2 Facts₀.transposes_S1x16_S16x1_1_0))
        (broadcastInDim S4096x1 ![0, 1] Facts₀.bcast_S1x1_S4096x1_0_1 (broadcastInDim S1x1 ![1] Facts₀.bcast_S1_S1x1_1 bo2)))
        noise))))

section Net
variable (A : FVec Ideal S4096x4096 .f32) (Wc : FVec Ideal S16x32 .f32) (bc : FVec Ideal S16 .f32)
  (Wv : FVec Ideal S16x32 .f32) (bv : FVec Ideal S16 .f32)

/-- The states of the clauses after the first round. -/
def clause1 : FVec Ideal S4096x16 .f32 := layer Wc bc zeros (toClauses A ones)
/-- The states of the variables after the first round. -/
def vars1 : FVec Ideal S4096x16 .f32 := layer Wv bv ones (toVars A (clause1 A Wc bc))
/-- The states of the clauses after the second round. -/
def clause2 : FVec Ideal S4096x16 .f32 := layer Wc bc (clause1 A Wc bc) (toClauses A (vars1 A Wc bc Wv bv))
/-- The states of the variables after the second round. -/
def vars2 : FVec Ideal S4096x16 .f32 := layer Wv bv (vars1 A Wc bc Wv bv) (toVars A (clause2 A Wc bc Wv bv))

/-- What the reference returns. -/
def net (Wo : FVec Ideal S16x16 .f32) (bo : FVec Ideal S16 .f32) (Wo2 : FVec Ideal S1x16 .f32) (bo2 : FVec Ideal S1 .f32)
    (noise : FVec Ideal S4096x1 .f32) : FVec Ideal S4096x1 .f32 :=
  output Wo bo Wo2 bo2 noise (vars2 A Wc bc Wv bv)
end Net

/-! ## The same, entry by entry -/

/-- An entry of a layer: the two sums of sixteen products, plus the bias, positive part. -/
theorem layer_at (W : FVec Ideal S16x32 .f32) (b : FVec Ideal S16 .f32) (x y : FVec Ideal S4096x16 .f32) (i : Fin 4096) (j : Fin 16) :
    layer W b x y (ix2 i j)
      = max (∑ k : Fin 16, x (ix2 i k) * W (ix2 j ⟨k.val, by omega⟩)
          + ∑ k : Fin 16, y (ix2 i k) * W (ix2 j ⟨16 + k.val, by omega⟩) + b (ix1 j)) 0 := by
  pointwise [layer, relu]

/-- An entry of the adjacency times the states of the clauses: the sum along a row of the adjacency. -/
theorem toVars_at (A : FVec Ideal S4096x4096 .f32) (C : FVec Ideal S4096x16 .f32) (i : Fin 4096) (j : Fin 16) :
    toVars A C (ix2 i j) = ∑ k : Fin 4096, A (ix2 i k) * C (ix2 k j) := by
  pointwise [toVars]

/-- An entry of the transposed adjacency times the states of the variables: the sum along a column of the adjacency. -/
theorem toClauses_at (A : FVec Ideal S4096x4096 .f32) (V : FVec Ideal S4096x16 .f32) (i : Fin 4096) (j : Fin 16) :
    toClauses A V (ix2 i j) = ∑ k : Fin 4096, A (ix2 k i) * V (ix2 k j) := by
  pointwise [toClauses]

/-- Every variable starts at one. -/
theorem ones_at (i : Fin 4096) (j : Fin 16) : ones (ix2 i j) = 1 := by
  pointwise [ones]

/-- Every clause starts at zero. -/
theorem zeros_at (i : Fin 4096) (j : Fin 16) : zeros (ix2 i j) = 0 := by
  pointwise [zeros]

/-- A result: the sigmoid of the variable's logit plus its noise. -/
theorem output_at (Wo : FVec Ideal S16x16 .f32) (bo : FVec Ideal S16 .f32) (Wo2 : FVec Ideal S1x16 .f32) (bo2 : FVec Ideal S1 .f32)
    (noise : FVec Ideal S4096x1 .f32) (V : FVec Ideal S4096x16 .f32) (i : Fin 4096) :
    output Wo bo Wo2 bo2 noise V (ix2 i 0)
      = Ideal.div 1 (1 + Ideal.exp (-(∑ k : Fin 16,
          max (∑ l : Fin 16, V (ix2 i l) * Wo (ix2 k l) + bo (ix1 k)) 0 * Wo2 (ix2 0 k) + bo2 (ix1 0) + noise (ix2 i 0)))) := by
  pointwise [output, relu]

end Cert.ReferenceIdeal.Values
-- ==== Proof.Values.Stages.lean ====
module

public import proofs.«01_k».proof.Proof.Values.Reference
public import proofs.«01_k».proof.Proof.Run.KICases

@[expose] public section

set_option maxRecDepth 16384

noncomputable section

namespace Cert.KernelIdeal.Values

open Cert.KernelIdeal Cert.KernelIdeal.Gen
open Idealize.ShloMosaic Idealize.ShloMosaic.TcCoe

/-! ## Finite factors distribute over a finite sum -/

/-- A sum of real numbers is a real number. -/
theorem real_sum {n : ℕ} (f : Fin n → EReal) (h : ∀ k, ∃ r : ℝ, f k = r) : ∃ r : ℝ, ∑ k, f k = r :=
  Finset.sum_induction f (fun x => ∃ r : ℝ, x = r)
    (fun a b ⟨p, hp⟩ ⟨q, hq⟩ => ⟨p + q, by rw [hp, hq, EReal.coe_add]⟩) ⟨0, rfl⟩ fun k _ => h k

/-- A real number times a sum of real numbers is the sum of the products. -/
theorem mul_real_sum {n : ℕ} (a : EReal) (ha : ∃ r : ℝ, a = r) (f : Fin n → EReal) (h : ∀ k, ∃ r : ℝ, f k = r) :
    a * ∑ k, f k = ∑ k, a * f k := by
  obtain ⟨r, rfl⟩ := ha
  choose g hg using h
  have key : ∀ s : Finset (Fin n), (r : EReal) * ∑ k ∈ s, (g k : EReal) = ∑ k ∈ s, (r : EReal) * (g k : EReal)
      ∧ ∃ q : ℝ, ∑ k ∈ s, (g k : EReal) = q := fun s => by
    induction s using Finset.induction_on with
    | empty => exact ⟨by simp only [Finset.sum_empty, mul_zero], 0, by rw [Finset.sum_empty]; rfl⟩
    | insert k s hk ih =>
      obtain ⟨q, hq⟩ := ih.2
      rw [Finset.sum_insert hk, Finset.sum_insert hk, ← ih.1, hq]
      exact ⟨by rw [← EReal.coe_add, ← EReal.coe_mul, ← EReal.coe_mul, ← EReal.coe_mul, ← EReal.coe_add, mul_add], g k + q, by rw [EReal.coe_add]⟩
  have := (key Finset.univ).1
  simpa only [hg] using this

/-! ## Each stage of the compute phase is the reference's -/

/-- The first clause states: each column sum of the adjacency times the summed weights is the reference's sum of products, where both are finite. -/
theorem clause1_eq (A : FVec Ideal S4096x4096 .f32) (W : FVec Ideal S16x32 .f32) (b : FVec Ideal S16 .f32)
    (x2 : FVec Ideal S16x16 .f32) (x3 : FVec Ideal S1x16 .f32) (s : FVec Ideal S1x4096 .f32)
    (h2 : ∀ k j : Fin 16, x2 (ix2 k j) = W (ix2 j ⟨16 + k.val, by omega⟩))
    (h3 : ∀ j : Fin 16, x3 (ix2 0 j) = b (ix1 j))
    (hs : ∀ i : Fin 4096, s (ix2 0 i) = ∑ k : Fin 4096, A (ix2 k i))
    (hA : ∀ i k : Fin 4096, ∃ r : ℝ, A (ix2 i k) = r)
    (hW : ∀ j k : Fin 16, ∃ r : ℝ, W (ix2 j ⟨16 + k.val, by omega⟩) = r) :
    k0_pay6 (F := Ideal) x2 s x3 = Cert.ReferenceIdeal.Values.clause1 A W b := by
  funext y
  idx_vars y
  rw [Cert.ReferenceIdeal.Values.clause1, Cert.ReferenceIdeal.Values.layer_at]
  simp only [Cert.ReferenceIdeal.Values.zeros_at, Cert.ReferenceIdeal.Values.toClauses_at, Cert.ReferenceIdeal.Values.ones_at,
    zero_mul, mul_one, Finset.sum_const_zero, zero_add]
  pointwise [k0_pay6, h2, h3, hs]
  rw [mul_real_sum _ (real_sum _ fun k => hA k y0) _ (hW y1)]

/-- Two positions of the adjacency are one when their coordinates are. -/
theorem square_ext (p q : S4096x4096.Idx) (h0 : (p 0).val = (q 0).val) (h1 : (p 1).val = (q 1).val) : p = q := by
  funext a
  match a with
  | ⟨0, _⟩ => exact Fin.ext h0
  | ⟨1, _⟩ => exact Fin.ext h1

/-- The upper rows, read at an entry. -/
theorem topRows_at (X : FVec Ideal S4096x4096 .bf16) (i : Fin 2048) (k : Fin 4096) :
    Run.topRows (F := Ideal) X (ix2 i k) = X (ix2 ⟨i.val, by omega⟩ k) :=
  congrArg X (square_ext _ _ (show 0 + 1 * i.val = i.val by omega) (show 0 + 1 * k.val = k.val by omega))

/-- The lower rows, read at an entry. -/
theorem botRows_at (X : FVec Ideal S4096x4096 .bf16) (i : Fin 2048) (k : Fin 4096) :
    Run.botRows (F := Ideal) X (ix2 i k) = X (ix2 ⟨2048 + i.val, by omega⟩ k) :=
  congrArg X (square_ext _ _ (show 2048 + 1 * i.val = 2048 + i.val by omega) (show 0 + 1 * k.val = k.val by omega))

/-- The left columns, read at an entry. -/
theorem leftCols_at (X : FVec Ideal S4096x4096 .bf16) (k : Fin 4096) (i : Fin 2048) :
    Run.leftCols (F := Ideal) X (ix2 k i) = X (ix2 k ⟨i.val, by omega⟩) :=
  congrArg X (square_ext _ _ (show 0 + 1 * k.val = k.val by omega) (show 0 + 1 * i.val = i.val by omega))

/-- The right columns, read at an entry. -/
theorem rightCols_at (X : FVec Ideal S4096x4096 .bf16) (k : Fin 4096) (i : Fin 2048) :
    Run.rightCols (F := Ideal) X (ix2 k i) = X (ix2 k ⟨2048 + i.val, by omega⟩) :=
  congrArg X (square_ext _ _ (show 0 + 1 * k.val = k.val by omega) (show 2048 + 1 * i.val = 2048 + i.val by omega))

/-- The messages to the variables, computed for the two halves of the rows and stacked. -/
theorem toVars_eq (A : FVec Ideal S4096x4096 .f32) (X : FVec Ideal S4096x4096 .bf16) (C : FVec Ideal S4096x16 .f32)
    (hX : ∀ i k : Fin 4096, X (ix2 i k) = A (ix2 i k)) :
    Run.stack (F := Ideal) (k0_pay8 (F := Ideal) C (Run.topRows X)) (k0_pay9 (F := Ideal) C (Run.botRows X)) = Cert.ReferenceIdeal.Values.toVars A C := by
  funext y
  idx_vars y
  rw [Cert.ReferenceIdeal.Values.toVars_at]
  unfold Run.stack
  pointwise [k0_pay8, k0_pay9, k0_pay7]
  by_cases h : y0.val < 2048
  · rw [dif_pos h]
    simp only [topRows_at, hX]
  · rw [dif_neg h]
    simp only [botRows_at, hX]
    have e : (⟨2048 + (y0.val - 2048), by omega⟩ : Fin 4096) = y0 := Fin.ext (by show 2048 + (y0.val - 2048) = y0.val; omega)
    rw [e]

/-- The messages to the clauses, computed for the two halves of the columns and stacked. -/
theorem toClauses_eq (A : FVec Ideal S4096x4096 .f32) (X : FVec Ideal S4096x4096 .bf16) (C : FVec Ideal S4096x16 .f32)
    (hX : ∀ i k : Fin 4096, X (ix2 i k) = A (ix2 i k)) :
    Run.stack (F := Ideal) (k0_pay13 (F := Ideal) C (Run.leftCols X)) (k0_pay14 (F := Ideal) C (Run.rightCols X)) = Cert.ReferenceIdeal.Values.toClauses A C := by
  funext y
  idx_vars y
  rw [Cert.ReferenceIdeal.Values.toClauses_at]
  unfold Run.stack
  pointwise [k0_pay13, k0_pay14, k0_pay12]
  by_cases h : y0.val < 2048
  · rw [dif_pos h]
    simp only [leftCols_at, hX]
  · rw [dif_neg h]
    simp only [rightCols_at, hX]
    have e : (⟨2048 + (y0.val - 2048), by omega⟩ : Fin 4096) = y0 := Fin.ext (by show 2048 + (y0.val - 2048) = y0.val; omega)
    rw [e]

/-- The first variable states: the summed weights stand for the product of the all-ones states with the weights. -/
theorem vars1_eq (W : FVec Ideal S16x32 .f32) (b : FVec Ideal S16 .f32) (M : FVec Ideal S4096x16 .f32)
    (x4 x5 : FVec Ideal S16x16 .f32) (x6 : FVec Ideal S1x16 .f32)
    (h4 : ∀ k j : Fin 16, x4 (ix2 k j) = W (ix2 j ⟨k.val, by omega⟩))
    (h5 : ∀ k j : Fin 16, x5 (ix2 k j) = W (ix2 j ⟨16 + k.val, by omega⟩))
    (h6 : ∀ j : Fin 16, x6 (ix2 0 j) = b (ix1 j)) :
    k0_pay11 (F := Ideal) (k0_pay10 x4) M x5 x6
      = Cert.ReferenceIdeal.Values.layer W b Cert.ReferenceIdeal.Values.ones M := by
  funext y
  idx_vars y
  rw [Cert.ReferenceIdeal.Values.layer_at]
  simp only [Cert.ReferenceIdeal.Values.ones_at, one_mul]
  pointwise [k0_pay11, k0_pay10, h4, h5, h6]

/-- The second clause states: the two products of sixteen columns are the reference's one product of thirty-two. -/
theorem clause2_eq (W : FVec Ideal S16x32 .f32) (b : FVec Ideal S16 .f32) (C M : FVec Ideal S4096x16 .f32)
    (x1 x2 : FVec Ideal S16x16 .f32) (x3 : FVec Ideal S1x16 .f32)
    (h1 : ∀ k j : Fin 16, x1 (ix2 k j) = W (ix2 j ⟨k.val, by omega⟩))
    (h2 : ∀ k j : Fin 16, x2 (ix2 k j) = W (ix2 j ⟨16 + k.val, by omega⟩))
    (h3 : ∀ j : Fin 16, x3 (ix2 0 j) = b (ix1 j)) :
    k0_pay15 (F := Ideal) C x1 M x2 x3 = Cert.ReferenceIdeal.Values.layer W b C M := by
  funext y
  idx_vars y
  rw [Cert.ReferenceIdeal.Values.layer_at]
  pointwise [k0_pay15, h1, h2, h3]

/-- The second variable states: likewise. -/
theorem vars2_eq (W : FVec Ideal S16x32 .f32) (b : FVec Ideal S16 .f32) (C M : FVec Ideal S4096x16 .f32)
    (x1 x2 : FVec Ideal S16x16 .f32) (x3 : FVec Ideal S1x16 .f32)
    (h1 : ∀ k j : Fin 16, x1 (ix2 k j) = W (ix2 j ⟨k.val, by omega⟩))
    (h2 : ∀ k j : Fin 16, x2 (ix2 k j) = W (ix2 j ⟨16 + k.val, by omega⟩))
    (h3 : ∀ j : Fin 16, x3 (ix2 0 j) = b (ix1 j)) :
    k0_pay19 (F := Ideal) C x1 M x2 x3 = Cert.ReferenceIdeal.Values.layer W b C M := by
  funext y
  idx_vars y
  rw [Cert.ReferenceIdeal.Values.layer_at]
  pointwise [k0_pay19, h1, h2, h3]

/-- The results: column 0 of the padded output layer through the logistic function is the reference's sigmoid. -/
theorem output_eq (Wo : FVec Ideal S16x16 .f32) (bo : FVec Ideal S16 .f32) (Wo2 : FVec Ideal S1x16 .f32) (bo2 : FVec Ideal S1 .f32)
    (noise : FVec Ideal S4096x1 .f32) (V : FVec Ideal S4096x16 .f32) (x7 : FVec Ideal S16x16 .f32) (x8 : FVec Ideal S1x16 .f32)
    (x9 : FVec Ideal S16x128 .f32) (x10 : FVec Ideal S1x128 .f32) (x11 : FVec Ideal S4096x128 .f32)
    (h7 : ∀ k j : Fin 16, x7 (ix2 k j) = Wo (ix2 j k)) (h8 : ∀ j : Fin 16, x8 (ix2 0 j) = bo (ix1 j))
    (h9 : ∀ k : Fin 16, x9 (ix2 k 0) = Wo2 (ix2 0 k)) (h10 : x10 (ix2 0 0) = bo2 (ix1 0))
    (h11 : ∀ i : Fin 4096, x11 (ix2 i 0) = noise (ix2 i 0)) (i : Fin 4096) :
    k0_pay5 (F := Ideal) (k0_pay20 V x7 x8 x9 x10) x11 (ix2 i 0)
      = Cert.ReferenceIdeal.Values.output Wo bo Wo2 bo2 noise V (ix2 i 0) := by
  rw [Cert.ReferenceIdeal.Values.output_at]
  pointwise [k0_pay5, k0_pay20, h7, h8, h9, h10, h11]
  rfl

/-! ## The whole compute phase -/

/-- Column 0 of the block of results is the reference's network, when the scratch holds the adjacency and its column sums and the
    parameter buffers hold the transposed, split and padded weights. -/
theorem results_eq (A : FVec Ideal S4096x4096 .f32) (Wc : FVec Ideal S16x32 .f32) (bc : FVec Ideal S16 .f32)
    (Wv : FVec Ideal S16x32 .f32) (bv : FVec Ideal S16 .f32) (Wo : FVec Ideal S16x16 .f32) (bo : FVec Ideal S16 .f32)
    (Wo2 : FVec Ideal S1x16 .f32) (bo2 : FVec Ideal S1 .f32) (noise : FVec Ideal S4096x1 .f32)
    (x1 x2 : FVec Ideal S16x16 .f32) (x3 : FVec Ideal S1x16 .f32) (x4 x5 : FVec Ideal S16x16 .f32) (x6 : FVec Ideal S1x16 .f32)
    (x7 : FVec Ideal S16x16 .f32) (x8 : FVec Ideal S1x16 .f32)
    (x9 : FVec Ideal S16x128 .f32) (x10 : FVec Ideal S1x128 .f32) (x11 : FVec Ideal S4096x128 .f32)
    (X : FVec Ideal S4096x4096 .bf16) (s : FVec Ideal S1x4096 .f32)
    (h1 : ∀ k j : Fin 16, x1 (ix2 k j) = Wc (ix2 j ⟨k.val, by omega⟩))
    (h2 : ∀ k j : Fin 16, x2 (ix2 k j) = Wc (ix2 j ⟨16 + k.val, by omega⟩))
    (h3 : ∀ j : Fin 16, x3 (ix2 0 j) = bc (ix1 j))
    (h4 : ∀ k j : Fin 16, x4 (ix2 k j) = Wv (ix2 j ⟨k.val, by omega⟩))
    (h5 : ∀ k j : Fin 16, x5 (ix2 k j) = Wv (ix2 j ⟨16 + k.val, by omega⟩))
    (h6 : ∀ j : Fin 16, x6 (ix2 0 j) = bv (ix1 j))
    (h7 : ∀ k j : Fin 16, x7 (ix2 k j) = Wo (ix2 j k)) (h8 : ∀ j : Fin 16, x8 (ix2 0 j) = bo (ix1 j))
    (h9 : ∀ k : Fin 16, x9 (ix2 k 0) = Wo2 (ix2 0 k)) (h10 : x10 (ix2 0 0) = bo2 (ix1 0))
    (h11 : ∀ i : Fin 4096, x11 (ix2 i 0) = noise (ix2 i 0))
    (hX : ∀ i k : Fin 4096, X (ix2 i k) = A (ix2 i k))
    (hs : ∀ i : Fin 4096, s (ix2 0 i) = ∑ k : Fin 4096, A (ix2 k i))
    (hA : ∀ i k : Fin 4096, ∃ r : ℝ, A (ix2 i k) = r)
    (hW : ∀ j k : Fin 16, ∃ r : ℝ, Wc (ix2 j ⟨16 + k.val, by omega⟩) = r) (i : Fin 4096) :
    Run.results (F := Ideal) x1 x2 x3 x4 x5 x6 x7 x8 x9 x10 x11 X s (ix2 i 0)
      = Cert.ReferenceIdeal.Values.net A Wc bc Wv bv Wo bo Wo2 bo2 noise (ix2 i 0) := by
  have e1 : Run.clause1 (F := Ideal) x2 x3 s = Cert.ReferenceIdeal.Values.clause1 A Wc bc := clause1_eq A Wc bc x2 x3 s h2 h3 hs hA hW
  have e2 : Run.vars1 (F := Ideal) x2 x3 x4 x5 x6 X s = Cert.ReferenceIdeal.Values.vars1 A Wc bc Wv bv := by
    unfold Run.vars1 Run.toVars1
    rw [e1, toVars_eq A X _ hX]
    exact vars1_eq Wv bv _ x4 x5 x6 h4 h5 h6
  have e3 : Run.clause2 (F := Ideal) x1 x2 x3 x4 x5 x6 X s = Cert.ReferenceIdeal.Values.clause2 A Wc bc Wv bv := by
    unfold Run.clause2 Run.toClauses2
    rw [e1, e2, toClauses_eq A X _ hX]
    exact clause2_eq Wc bc _ _ x1 x2 x3 h1 h2 h3
  have e4 : Run.vars2 (F := Ideal) x1 x2 x3 x4 x5 x6 X s = Cert.ReferenceIdeal.Values.vars2 A Wc bc Wv bv := by
    unfold Run.vars2 Run.toVars2
    rw [e2, e3]
    exact (congrArg (fun M => k0_pay19 (F := Ideal) _ x4 M x5 x6) (toVars_eq A X (Cert.ReferenceIdeal.Values.clause2 A Wc bc Wv bv) hX)).trans
      (vars2_eq Wv bv _ _ x4 x5 x6 h4 h5 h6)
  unfold Run.results
  rw [e4]
  exact output_eq Wo bo Wo2 bo2 noise _ x7 x8 x9 x10 x11 h7 h8 h9 h10 h11 i

end Cert.KernelIdeal.Values
-- ==== Proof.Values.Inputs.lean ====
module

public import proofs.«01_k».proof.Proof.Values.Stages
public import proofs.«01_k».proof.Proof.Run.KIRun
public import Idealize.ShloMosaic.Lib.Pipeline.ValueKit
public import Idealize.ShloMosaic.Lib.Routing.OpsOne
public import Idealize.ShloMosaic.Lib.Claim

@[expose] public section

set_option maxRecDepth 16384

noncomputable section

namespace Cert.KernelIdeal.Values

open Cert.KernelIdeal Cert.KernelIdeal.Gen
open Idealize.ShloMosaic Idealize.ShloMosaic.TcCoe Idealize.SL.Sem
open Idealize.ShloMosaic.Pipeline (Dat)

/-! ## The padded parameters: a column, or a cell, written into zeros -/

/-- Writing a column into column 0 of a matrix: the matrix read in column 0 is the column. -/
theorem column0 {A N : ℕ} (hN : 0 < N) (d : ScatterDims ⟨2, ![A, N]⟩ ⟨1, ![1]⟩ ⟨1, ![A]⟩) (hw : d.insertedWindowDims = [1])
    (hs : d.scatterDimsToOperandDims = [1]) (x : FVec Ideal ⟨2, ![A, N]⟩ .f32) (idx : IVec ⟨1, ![1]⟩ 32) (hi : (idx (ix1 0)).toInt = 0)
    (u : FVec Ideal ⟨1, ![A]⟩ .f32) (r : Fin A) :
    Host.scatter d (fun _ b => b) x idx u (ix2 r ⟨0, hN⟩) = u (ix1 r) := by
  have lands := Routing.lands_col d hw hs idx ⟨0, hN⟩ hi
  refine Routing.scatter_set_hit d x idx u _ _ (fun j hj => ?_) (ix1 r) ((lands r r ⟨0, hN⟩).2 ⟨rfl, rfl⟩)
  have e : j = ix1 (j 0) := eq_ix1 j
  rw [e] at hj ⊢
  exact congrArg (fun t => u (ix1 t)) ((lands (j 0) r ⟨0, hN⟩).1 hj).1

variable (m : (ℓ : Loc nD τ sig) → Buf (Elt Ideal) ℓ)

/-! ## The windows' blocks -/

/-- Where each window's block lies: window 0 walks down the rows of the adjacency and stays at the last block, every other window is
    its whole array at every point. -/
theorem idx : ∀ t : Fin cfg0.N, win0_0.index t = ![min t.val 15, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

/-- The block of window 1 is its whole array. -/
theorem whole1 (c : Dev nD) (t : Fin cfg0.N) : iblk m c 1 t = V m c main_v1 := by blk_ext! [iblk, V, idx t]

/-- The block of window 2 is its whole array. -/
theorem whole2 (c : Dev nD) (t : Fin cfg0.N) : iblk m c 2 t = V m c main_v2 := by blk_ext! [iblk, V, idx t]

/-- The block of window 3 is its whole array. -/
theorem whole3 (c : Dev nD) (t : Fin cfg0.N) : iblk m c 3 t = V m c main_v6 := by blk_ext! [iblk, V, idx t]

/-- The block of window 4 is its whole array. -/
theorem whole4 (c : Dev nD) (t : Fin cfg0.N) : iblk m c 4 t = V m c main_v4 := by blk_ext! [iblk, V, idx t]

/-- The block of window 5 is its whole array. -/
theorem whole5 (c : Dev nD) (t : Fin cfg0.N) : iblk m c 5 t = V m c main_v5 := by blk_ext! [iblk, V, idx t]

/-- The block of window 6 is its whole array. -/
theorem whole6 (c : Dev nD) (t : Fin cfg0.N) : iblk m c 6 t = V m c main_v7 := by blk_ext! [iblk, V, idx t]

/-- The block of window 7 is its whole array. -/
theorem whole7 (c : Dev nD) (t : Fin cfg0.N) : iblk m c 7 t = V m c main_v8 := by blk_ext! [iblk, V, idx t]

/-- The block of window 8 is its whole array. -/
theorem whole8 (c : Dev nD) (t : Fin cfg0.N) : iblk m c 8 t = V m c main_v9 := by blk_ext! [iblk, V, idx t]

/-- The block of window 9 is its whole array. -/
theorem whole9 (c : Dev nD) (t : Fin cfg0.N) : iblk m c 9 t = V m c main_v13 := by blk_ext! [iblk, V, idx t]

/-- The block of window 10 is its whole array. -/
theorem whole10 (c : Dev nD) (t : Fin cfg0.N) : iblk m c 10 t = V m c main_v19 := by blk_ext! [iblk, V, idx t]

/-- The block of window 11 is its whole array. -/
theorem whole11 (c : Dev nD) (t : Fin cfg0.N) : iblk m c 11 t = V m c main_v23 := by blk_ext! [iblk, V, idx t]

/-! ## What the small operands hold, entry by entry -/

/-- The first sixteen rows of the transposed clause weights. -/
theorem x1_at (c : Dev nD) (t : Fin cfg0.N) (k j : Fin 16) :
    (iblk m c 1 t : FVec Ideal S16x16 .f32) (ix2 k j)
      = (m ((c : Thread nD τ).loc main_arg2) : FVec Ideal S16x32 .f32) (ix2 j ⟨k.val, by omega⟩) := by
  have e : V m c main_v1 = extractStridedSlice S16x16 ![0, 0] (transpose S32x16 [1, 0] (m ((c : Thread nD τ).loc main_arg2)) transposes_S16x32_S32x16_1_0) slices_S32x16_S16x16_0_0 := by
    simp only [V, V0, hostOps0, List.flatten_cons, List.flatten_nil, List.append_nil]
    after_results
  rw [whole1, e]
  pointwise

/-- The last sixteen rows of the transposed clause weights. -/
theorem x2_at (c : Dev nD) (t : Fin cfg0.N) (k j : Fin 16) :
    (iblk m c 2 t : FVec Ideal S16x16 .f32) (ix2 k j)
      = (m ((c : Thread nD τ).loc main_arg2) : FVec Ideal S16x32 .f32) (ix2 j ⟨16 + k.val, by omega⟩) := by
  have e : V m c main_v2 = extractStridedSlice S16x16 ![16, 0] (transpose S32x16 [1, 0] (m ((c : Thread nD τ).loc main_arg2)) transposes_S16x32_S32x16_1_0) slices_S32x16_S16x16_16_0 := by
    simp only [V, V0, hostOps0, List.flatten_cons, List.flatten_nil, List.append_nil]
    after_results
  rw [whole2, e]
  pointwise

/-- The clause bias. -/
theorem x3_at (c : Dev nD) (t : Fin cfg0.N) (j : Fin 16) :
    (iblk m c 3 t : FVec Ideal S1x16 .f32) (ix2 0 j)
      = (m ((c : Thread nD τ).loc main_arg3) : FVec Ideal S16 .f32) (ix1 j) := by
  have e : V m c main_v6 = shapeCast S1x16 (m ((c : Thread nD τ).loc main_arg3)) shapeCasts_S16_S1x16 := by
    simp only [V, V0, hostOps0, List.flatten_cons, List.flatten_nil, List.append_nil]
    after_results
    rfl
  rw [whole3, e]
  pointwise

/-- The first sixteen rows of the transposed variable weights. -/
theorem x4_at (c : Dev nD) (t : Fin cfg0.N) (k j : Fin 16) :
    (iblk m c 4 t : FVec Ideal S16x16 .f32) (ix2 k j)
      = (m ((c : Thread nD τ).loc main_arg4) : FVec Ideal S16x32 .f32) (ix2 j ⟨k.val, by omega⟩) := by
  have e : V m c main_v4 = extractStridedSlice S16x16 ![0, 0] (transpose S32x16 [1, 0] (m ((c : Thread nD τ).loc main_arg4)) transposes_S16x32_S32x16_1_0) slices_S32x16_S16x16_0_0 := by
    simp only [V, V0, hostOps0, List.flatten_cons, List.flatten_nil, List.append_nil]
    after_results
  rw [whole4, e]
  pointwise

/-- The last sixteen rows of the transposed variable weights. -/
theorem x5_at (c : Dev nD) (t : Fin cfg0.N) (k j : Fin 16) :
    (iblk m c 5 t : FVec Ideal S16x16 .f32) (ix2 k j)
      = (m ((c : Thread nD τ).loc main_arg4) : FVec Ideal S16x32 .f32) (ix2 j ⟨16 + k.val, by omega⟩) := by
  have e : V m c main_v5 = extractStridedSlice S16x16 ![16, 0] (transpose S32x16 [1, 0] (m ((c : Thread nD τ).loc main_arg4)) transposes_S16x32_S32x16_1_0) slices_S32x16_S16x16_16_0 := by
    simp only [V, V0, hostOps0, List.flatten_cons, List.flatten_nil, List.append_nil]
    after_results
  rw [whole5, e]
  pointwise

/-- The variable bias. -/
theorem x6_at (c : Dev nD) (t : Fin cfg0.N) (j : Fin 16) :
    (iblk m c 6 t : FVec Ideal S1x16 .f32) (ix2 0 j)
      = (m ((c : Thread nD τ).loc main_arg5) : FVec Ideal S16 .f32) (ix1 j) := by
  have e : V m c main_v7 = shapeCast S1x16 (m ((c : Thread nD τ).loc main_arg5)) shapeCasts_S16_S1x16 := by
    simp only [V, V0, hostOps0, List.flatten_cons, List.flatten_nil, List.append_nil]
    after_results
    rfl
  rw [whole6, e]
  pointwise

/-- The transposed weights of the hidden output layer. -/
theorem x7_at (c : Dev nD) (t : Fin cfg0.N) (k j : Fin 16) :
    (iblk m c 7 t : FVec Ideal S16x16 .f32) (ix2 k j)
      = (m ((c : Thread nD τ).loc main_arg6) : FVec Ideal S16x16 .f32) (ix2 j k) := by
  have e : V m c main_v8 = transpose S16x16 [1, 0] (m ((c : Thread nD τ).loc main_arg6)) transposes_S16x16_S16x16_1_0 := by
    simp only [V, V0, hostOps0, List.flatten_cons, List.flatten_nil, List.append_nil]
    after_results
  rw [whole7, e]
  pointwise

/-- The bias of the hidden output layer. -/
theorem x8_at (c : Dev nD) (t : Fin cfg0.N) (j : Fin 16) :
    (iblk m c 8 t : FVec Ideal S1x16 .f32) (ix2 0 j)
      = (m ((c : Thread nD τ).loc main_arg7) : FVec Ideal S16 .f32) (ix1 j) := by
  have e : V m c main_v9 = shapeCast S1x16 (m ((c : Thread nD τ).loc main_arg7)) shapeCasts_S16_S1x16 := by
    simp only [V, V0, hostOps0, List.flatten_cons, List.flatten_nil, List.append_nil]
    after_results
    rfl
  rw [whole8, e]
  pointwise

/-- Column 0 of the padded output weights. -/
theorem x9_at (c : Dev nD) (t : Fin cfg0.N) (k : Fin 16) :
    (iblk m c 9 t : FVec Ideal S16x128 .f32) (ix2 k 0)
      = (m ((c : Thread nD τ).loc main_arg8) : FVec Ideal S1x16 .f32) (ix2 0 k) := by
  have e : V m c main_v13 = Host.scatter scatter_S16x128_S1_S16_0_1_1_0 (fun _ b => b)
      (broadcastInDim S16x128 ![] bcast_S_S16x128 (constant (F := Ideal) S_ .f32 0x00000000#32)) (broadcastInDim S1 ![] bcast_S_S1 (constantI S_ 32 0#32))
      (shapeCast S16 (m ((c : Thread nD τ).loc main_arg8)) shapeCasts_S1x16_S16) := by
    simp only [V, V0, hostOps0, List.flatten_cons, List.flatten_nil, List.append_nil]
    after_results
    rfl
  rw [whole9, e]
  refine (column0 (by decide) _ rfl rfl _ _ (by decide) _ k).trans ?_
  pointwise

/-- Cell 0 of the padded output bias. -/
theorem x10_at (c : Dev nD) (t : Fin cfg0.N) :
    (iblk m c 10 t : FVec Ideal S1x128 .f32) (ix2 0 0)
      = (m ((c : Thread nD τ).loc main_arg9) : FVec Ideal S1 .f32) (ix1 0) := by
  have e : V m c main_v19 = Host.scatter scatter_S1x128_S2_S__n_01_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩]
        concatenates_S1_S1_S2_d0)
      (shapeCast S_ (m ((c : Thread nD τ).loc main_arg9)) shapeCasts_S1_S_) := by
    simp only [V, V0, hostOps0, List.flatten_cons, List.flatten_nil, List.append_nil]
    after_results
    rfl
  rw [whole10, e]
  refine (Routing.scatter_cell_signed _ rfl rfl rfl _ _ _ 0 0).trans ?_
  rw [if_pos (by decide)]
  pointwise

/-- Column 0 of the padded noise. -/
theorem x11_at (c : Dev nD) (t : Fin cfg0.N) (i : Fin 4096) :
    (iblk m c 11 t : FVec Ideal S4096x128 .f32) (ix2 i 0)
      = (m ((c : Thread nD τ).loc main_arg10) : FVec Ideal S4096x1 .f32) (ix2 i 0) := by
  have e : V m c main_v23 = Host.scatter scatter_S4096x128_S1_S4096_0_1_1_0 (fun _ b => b)
      (broadcastInDim S4096x128 ![] bcast_S_S4096x128 (constant (F := Ideal) S_ .f32 0x00000000#32)) (broadcastInDim S1 ![] bcast_S_S1 (constantI S_ 32 0#32))
      (shapeCast S4096 (m ((c : Thread nD τ).loc main_arg10)) shapeCasts_S4096x1_S4096) := by
    simp only [V, V0, hostOps0, List.flatten_cons, List.flatten_nil, List.append_nil]
    after_results
    rfl
  rw [whole11, e]
  refine (column0 (by decide) _ rfl rfl _ _ (by decide) _ i).trans ?_
  pointwise

end Cert.KernelIdeal.Values
-- ==== Proof.Values.Final.lean ====
module

public import proofs.«01_k».proof.Proof.Values.Inputs

@[expose] public section

set_option maxRecDepth 16384

noncomputable section

namespace Cert.KernelIdeal.Values

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The adjacency the program was given. -/
def A₀ (c : Dev nD) : FVec Ideal S4096x4096 .f32 := m ((c : Thread nD τ).loc main_arg0)

/-! ## The scratch at the compute phase -/

/-- A row of a block of the adjacency is that row of the adjacency. -/
theorem rowBlock_at (c : Dev nD) (t : Fin cfg0.N) (ht : t.val < 16) (r : Fin 256) (k : Fin 4096) :
    (Run.rowBlock m c t : FVec Ideal S256x4096 .f32) (ix2 r k) = A₀ m c (ix2 ⟨t.val * 256 + r.val, by omega⟩ k) := by
  unfold Run.rowBlock A₀
  blk_ext [iblk, V_main_arg0, idx t]

/-- The loaded adjacency is the adjacency: the rounding is the identity at the ideal values. -/
theorem adj_at (c : Dev nD) (i k : Fin 4096) :
    (Run.adj m c : FVec Ideal S4096x4096 .bf16) (ix2 i k) = A₀ m c (ix2 i k) := by
  unfold Run.adj
  have hN : cfg0.N = 17 := N_0
  pointwise [k0_pay1]
  refine (rowBlock_at m c ⟨i.val / 256, by omega⟩ (by show i.val / 256 < 16; omega) ⟨i.val % 256, Nat.mod_lt _ (by omega)⟩ k).trans ?_
  refine congrArg (fun r => A₀ m c (ix2 r k)) (Fin.ext ?_)
  show i.val / 256 * 256 + i.val % 256 = i.val
  omega

/-- The sum of one column over the rows of block `b`. -/
def blockSum (c : Dev nD) (i : Fin 4096) (b : ℕ) : EReal :=
  if h : b < 16 then ∑ r : Fin 256, A₀ m c (ix2 ⟨b * 256 + r.val, by omega⟩ i) else 0

/-- What a block contributes to the running column sums. -/
theorem pay2_at (c : Dev nD) (t : Fin cfg0.N) (ht : t.val < 16) (i : Fin 4096) :
    k0_pay2 (F := Ideal) (Run.rowBlock m c t) (ix2 0 i) = blockSum m c i t.val := by
  unfold blockSum
  rw [dif_pos ht]
  pointwise [k0_pay2]
  exact Finset.sum_congr rfl fun r _ => rowBlock_at m c t ht r i

/-- The running column sums after block `n` are the sums over the blocks up to it. -/
theorem sums_at (c : Dev nD) (i : Fin 4096) : ∀ n : ℕ, n < 16 →
    (Run.sums m c n : FVec Ideal S1x4096 .f32) (ix2 0 i) = ∑ b ∈ Finset.range (n + 1), blockSum m c i b
  | 0, _ => by
    have hN : cfg0.N = 17 := N_0
    rw [Finset.sum_range_one]
    refine Eq.trans ?_ (pay2_at m c ⟨0, by omega⟩ (by show 0 < 16; omega) i)
    rw [Run.sums]
    pointwise [k0_pay3]
  | n + 1, h => by
    have hN : cfg0.N = 17 := N_0
    rw [Finset.sum_range_succ, ← sums_at c i n (by omega), ← pay2_at m c ⟨n + 1, by omega⟩ h i]
    rw [Run.sums_next m n ⟨n + 1, by omega⟩ rfl h]
    pointwise [k0_pay4]

/-- The finished column sums are the column sums of the adjacency. -/
theorem colSums_at (c : Dev nD) (i : Fin 4096) :
    (Run.sums m c 15 : FVec Ideal S1x4096 .f32) (ix2 0 i) = ∑ r : Fin 4096, A₀ m c (ix2 r i) := by
  rw [sums_at m c i 15 (by omega), Finset.sum_range, Fin.sum_univ_tiles 16 256 rfl fun r : Fin 4096 => A₀ m c (ix2 r i)]
  exact Finset.sum_congr rfl fun b _ => dif_pos b.isLt

/-! ## The result array -/

/-- Every point's block of results would be the same: the small operands are whole arrays. -/
theorem outAt_eq (c : Dev nD) (t t' : Fin cfg0.N) : Run.outAt m c t = Run.outAt m c t' := by
  unfold Run.outAt
  rw [whole1, whole2, whole3, whole4, whole5, whole6, whole7, whole8, whole9, whole10, whole11,
    whole1 m c t', whole2 m c t', whole3 m c t', whole4 m c t', whole5 m c t', whole6 m c t', whole7 m c t', whole8 m c t',
    whole9 m c t', whole10 m c t', whole11 m c t']

/-- The last grid point. -/
def last : Fin cfg0.N := ⟨16, by rw [show cfg0.N = 17 from N_0]; omega⟩

/-- After the run the padded result array holds the block of results. -/
theorem array_eq (c : Dev nD) : (Run.dats m 0 c).arrAt 12 (cfgs 0).N = Run.outAt m c last := by
  refine (Run.dats m 0 c).arrAt_eq_of_covers 12 _ (by decide +kernel) fun t hf y => ?_
  blk_simp
  rw [Run.after_12, outAt_eq m c t last]
  blk_ext [idx t]

end Cert.KernelIdeal.Values
-- ==== Proof.Values.Result.lean ====
module

public import proofs.«01_k».proof.Proof.Values.Final

@[expose] public section

set_option maxRecDepth 16384

noncomputable section

namespace Cert.KernelIdeal.Values

open Cert.KernelIdeal Cert.KernelIdeal.Gen
open Idealize.ShloMosaic Idealize.ShloMosaic.TcCoe

variable (m : (ℓ : Loc nD τ sig) → Buf (Elt Ideal) ℓ) (c : Dev nD)

/-- The clause weights: the third argument. -/
def clauseWeights : FVec Ideal S16x32 .f32 := m ((c : Thread nD τ).loc main_arg2)

/-- What the kernel's result array is to hold: the reference's network of the kernel's argument arrays. -/
def expected : FVec Ideal S4096x1 .f32 :=
  Cert.ReferenceIdeal.Values.net (m ((c : Thread nD τ).loc main_arg0))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))

/-- The first column of the padded result array is the reference's network of the arguments. -/
theorem column_eq (hA : ∀ i k : Fin 4096, ∃ r : ℝ, A₀ m c (ix2 i k) = r)
    (hW : ∀ j k : Fin 16, ∃ r : ℝ, clauseWeights m c (ix2 j ⟨16 + k.val, by omega⟩) = r) (i : Fin 4096) :
    (Run.outAt m c last : FVec Ideal S4096x128 .f32) (ix2 i 0) = expected m c (ix2 i 0) := by
  unfold Run.outAt expected
  exact results_eq _ _ _ _ _ _ _ _ _ _ _ _ _ _ _ _ _ _ _ _ _ _ _
    (x1_at m c last) (x2_at m c last) (x3_at m c last) (x4_at m c last) (x5_at m c last) (x6_at m c last) (x7_at m c last)
    (x8_at m c last) (x9_at m c last) (x10_at m c last) (x11_at m c last) (adj_at m c) (colSums_at m c) hA hW i

/-- The result array after the program: the reference's network of the arguments. -/
theorem result_eq (hA : ∀ i k : Fin 4096, ∃ r : ℝ, A₀ m c (ix2 i k) = r)
    (hW : ∀ j k : Fin 16, ∃ r : ℝ, clauseWeights m c (ix2 j ⟨16 + k.val, by omega⟩) = r) :
    Pipeline.afterTail₀ cfgs (Run.dats m) 0 (V0 m) [hostOps1] c main_v25 = expected m c := by
  unfold Pipeline.afterTail₀
  simp only [hostOps1, List.flatten_cons, List.flatten_nil, List.append_nil]
  after_results
  have array : Pipeline.withArrays (cfgs 0).spec c (V0 m c) (fun w => (Run.dats m 0 c).arrAt w (cfgs 0).N)
      (Proc.tc.devRef main_v24) = Run.outAt m c last :=
    (Pipeline.withArrays_arr (cfgs 0).spec (by decide) c (V0 m c) _ (12 : Fin 13)).trans (array_eq m c)
  rw [array]
  funext y
  idx_vars y
  pointwise
  rw [Subsingleton.elim y1 0]
  exact column_eq m c hA hW y0

end Cert.KernelIdeal.Values

end
-- ==== Proof.Values.Precondition.lean ====
module

public import proofs.«01_k».proof.Pre_finite
public import Idealize.ShloMosaic.Lib.Pointwise

@[expose] public section

set_option maxRecDepth 16384

noncomputable section

namespace Cert.Pre_finite.Values

open Cert.Pre_finite
open Idealize.ShloMosaic Idealize.ShloMosaic.TcCoe

/-- The shape relations the precondition states. -/
theorem facts : Cert.Pre_finite.Facts := ⟨by decide, by decide, by decide⟩

variable [Facts]

/-- An extended real whose absolute value tests below plus infinity is a real. -/
theorem real_of_test (x : EReal)
    (h : BitVec.ofBool (decide (max x (-x) < Ideal.ofBits FTy.f32 0x7F800000#32)) = 1#1) : ∃ r : ℝ, x = r := by
  have top : Ideal.ofBits .f32 0x7F800000#32 = ⊤ := by simp [Ideal.ofBits, Ideal.ieee]
  rw [top] at h
  induction x with
  | bot => simp at h
  | top => simp at h
  | coe r => exact ⟨r, rfl⟩

/-- The precondition's first part: every adjacency is a real. -/
theorem adj_real (a0 : FVec Ideal S4096x4096 .f32) (a1 : FVec Ideal S4096 .f32) (a2 : FVec Ideal S16x32 .f32)
    (a3 : FVec Ideal S16 .f32) (a4 : FVec Ideal S16x32 .f32) (a5 : FVec Ideal S16 .f32) (a6 : FVec Ideal S16x16 .f32)
    (a7 : FVec Ideal S16 .f32) (a8 : FVec Ideal S1x16 .f32) (a9 : FVec Ideal S1 .f32) (a10 : FVec Ideal S4096x1 .f32)
    (h : (fn a0 a1 a2 a3 a4 a5 a6 a7 a8 a9 a10).1 = fun _ => 1#1) (i k : Fin 4096) : ∃ r : ℝ, a0 (ix2 i k) = r := by
  have e := congrFun h (ix2 i k)
  dsimp only [fn] at e
  pointwise at e
  exact real_of_test _ e

/-- The precondition's second part: every clause weight that multiplies a variable's state is a real. -/
theorem weights_real (a0 : FVec Ideal S4096x4096 .f32) (a1 : FVec Ideal S4096 .f32) (a2 : FVec Ideal S16x32 .f32)
    (a3 : FVec Ideal S16 .f32) (a4 : FVec Ideal S16x32 .f32) (a5 : FVec Ideal S16 .f32) (a6 : FVec Ideal S16x16 .f32)
    (a7 : FVec Ideal S16 .f32) (a8 : FVec Ideal S1x16 .f32) (a9 : FVec Ideal S1 .f32) (a10 : FVec Ideal S4096x1 .f32)
    (h : (fn a0 a1 a2 a3 a4 a5 a6 a7 a8 a9 a10).2 = fun _ => 1#1) (j k : Fin 16) :
    ∃ r : ℝ, a2 (ix2 j ⟨16 + k.val, by omega⟩) = r := by
  have e := congrFun h (ix2 j k)
  dsimp only [fn] at e
  pointwise at e
  exact real_of_test _ e

end Cert.Pre_finite.Values

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run.KRun
public import proofs.«01_k».proof.Proof.Run.KIRun
public import proofs.«01_k».proof.Proof.Values.Result
public import proofs.«01_k».proof.Proof.Values.Precondition
public import Idealize.ShloMosaic.Lib.Claim

@[expose] public section

set_option maxRecDepth 16384

noncomputable section

namespace Cert.Proof

open Idealize.ShloMosaic Idealize.SL.Sem

/-- The kernel ends, leaves its arguments unchanged and every semaphore at zero. -/
theorem kernel_frame : Cert.quiescent_Kernel := fun m g _ => Cert.Kernel.Run.framed m g

/-- So does the kernel at the ideal values. -/
theorem ideal_frame : Cert.quiescent_KernelIdeal := fun m g _ => Cert.KernelIdeal.Run.framed m g

set_option maxHeartbeats 1600000 in
/-- The reference ends and leaves its arguments unchanged. -/
theorem reference_keeps (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => ∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)
      ∧ r.2.mem ((c.tc : Thread ReferenceIdeal.nD ReferenceIdeal.τ).loc ReferenceIdeal.main_arg7) = m ((c.tc : Thread ReferenceIdeal.nD ReferenceIdeal.τ).loc ReferenceIdeal.main_arg7)
      ∧ r.2.mem ((c.tc : Thread ReferenceIdeal.nD ReferenceIdeal.τ).loc ReferenceIdeal.main_arg8) = m ((c.tc : Thread ReferenceIdeal.nD ReferenceIdeal.τ).loc ReferenceIdeal.main_arg8)
      ∧ r.2.mem ((c.tc : Thread ReferenceIdeal.nD ReferenceIdeal.τ).loc ReferenceIdeal.main_arg9) = m ((c.tc : Thread ReferenceIdeal.nD ReferenceIdeal.τ).loc ReferenceIdeal.main_arg9)
      ∧ r.2.mem ((c.tc : Thread ReferenceIdeal.nD ReferenceIdeal.τ).loc ReferenceIdeal.main_arg10) = m ((c.tc : Thread ReferenceIdeal.nD ReferenceIdeal.τ).loc ReferenceIdeal.main_arg10)) := by
  hlo_run

/-- So does the reference, which has no semaphore. -/
theorem reference_frame : Cert.quiescent_ReferenceIdeal := fun m g _ =>
  (θ_run ReferenceIdeal.defs _ _).mono (fun r h => ⟨h, sem_eq_zero_of_no_sems (by decide) r.2⟩) (reference_keeps m g)

/-- No operation was replaced, so there is nothing to preserve. -/
theorem preserved : Cert.preserves_Kernel_KernelIdeal := trivial

/-- The shape relations the precondition states, for the statements below. -/
instance : Cert.Pre_finite.Facts := Cert.Pre_finite.Values.facts

/-- The reference's network of the arrays a memory holds. -/
def referenceOf (m : (ℓ : Loc ReferenceIdeal.nD ReferenceIdeal.τ ReferenceIdeal.sig) → Buf (Elt Ideal) ℓ)
    (c : Dev ReferenceIdeal.nD) : FVec Ideal ReferenceIdeal.S4096x1 .f32 :=
  ReferenceIdeal.Values.net (m ((c.tc : Thread ReferenceIdeal.nD ReferenceIdeal.τ).loc ReferenceIdeal.main_arg0))
    (m ((c.tc : Thread ReferenceIdeal.nD ReferenceIdeal.τ).loc ReferenceIdeal.main_arg2))
    (m ((c.tc : Thread ReferenceIdeal.nD ReferenceIdeal.τ).loc ReferenceIdeal.main_arg3))
    (m ((c.tc : Thread ReferenceIdeal.nD ReferenceIdeal.τ).loc ReferenceIdeal.main_arg4))
    (m ((c.tc : Thread ReferenceIdeal.nD ReferenceIdeal.τ).loc ReferenceIdeal.main_arg5))
    (m ((c.tc : Thread ReferenceIdeal.nD ReferenceIdeal.τ).loc ReferenceIdeal.main_arg6))
    (m ((c.tc : Thread ReferenceIdeal.nD ReferenceIdeal.τ).loc ReferenceIdeal.main_arg7))
    (m ((c.tc : Thread ReferenceIdeal.nD ReferenceIdeal.τ).loc ReferenceIdeal.main_arg8))
    (m ((c.tc : Thread ReferenceIdeal.nD ReferenceIdeal.τ).loc ReferenceIdeal.main_arg9))
    (m ((c.tc : Thread ReferenceIdeal.nD ReferenceIdeal.τ).loc ReferenceIdeal.main_arg10))

set_option maxHeartbeats 1600000 in
/-- The reference ends with its network's results and with its arguments unchanged. -/
theorem reference_ends (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => ∀ c : Dev ReferenceIdeal.nD,
      r.2.mem ((c.tc : Thread ReferenceIdeal.nD ReferenceIdeal.τ).loc ReferenceIdeal.main_v53) = referenceOf m c
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)
      ∧ r.2.mem ((c.tc : Thread ReferenceIdeal.nD ReferenceIdeal.τ).loc ReferenceIdeal.main_arg7) = m ((c.tc : Thread ReferenceIdeal.nD ReferenceIdeal.τ).loc ReferenceIdeal.main_arg7)
      ∧ r.2.mem ((c.tc : Thread ReferenceIdeal.nD ReferenceIdeal.τ).loc ReferenceIdeal.main_arg8) = m ((c.tc : Thread ReferenceIdeal.nD ReferenceIdeal.τ).loc ReferenceIdeal.main_arg8)
      ∧ r.2.mem ((c.tc : Thread ReferenceIdeal.nD ReferenceIdeal.τ).loc ReferenceIdeal.main_arg9) = m ((c.tc : Thread ReferenceIdeal.nD ReferenceIdeal.τ).loc ReferenceIdeal.main_arg9)
      ∧ r.2.mem ((c.tc : Thread ReferenceIdeal.nD ReferenceIdeal.τ).loc ReferenceIdeal.main_arg10) = m ((c.tc : Thread ReferenceIdeal.nD ReferenceIdeal.τ).loc ReferenceIdeal.main_arg10)) := by
  hlo_run
  rfl

set_option maxHeartbeats 1600000 in
/-- On finite adjacencies and weights the kernel and the reference end with the same results. -/
theorem same_results : Cert.algebraic_KernelIdeal_ReferenceIdeal_pre_finite := by
  intro m g m' g' hpre hagree
  refine ⟨fun c => KernelIdeal.Values.expected m c, ?_, ?_⟩
  · refine (θ_run KernelIdeal.defs _ _).mono (fun r h c => ⟨?_, h.2.1 c⟩)
      (θ_run_and (KernelIdeal.Run.run_main m g) (KernelIdeal.Run.framed m g))
    refine ((h.1 c).2 KernelIdeal.main_v25 (Pipeline.mem_restRefs_of KernelIdeal.main_v25 (by decide) (by decide))).trans ?_
    exact KernelIdeal.Values.result_eq m c
      (fun i k => Pre_finite.Values.adj_real _ _ _ _ _ _ _ _ _ _ _ (hpre c).1 i k)
      (fun j k => Pre_finite.Values.weights_real _ _ _ _ _ _ _ _ _ _ _ (hpre c).2 j k)
  · have same : ∀ c, referenceOf m' c = KernelIdeal.Values.expected m c := fun c => by
      obtain ⟨h0, _, h2, h3, h4, h5, h6, h7, h8, h9, h10⟩ := hagree c
      unfold referenceOf KernelIdeal.Values.expected
      rw [h0, h2, h3, h4, h5, h6, h7, h8, h9, h10]
    exact (θ_run ReferenceIdeal.defs _ _).mono (fun r h c => ⟨(h c).1.trans (same c), (h c).2⟩) (reference_ends m' g')

/-- The kernel's frame under the precondition, which the run does not need. -/
theorem ideal_frame_finite : Cert.quiescent_KernelIdeal_pre_finite := fun m g _ => ideal_frame m g trivial

/-- The reference's frame under the precondition, which the run does not need. -/
theorem reference_frame_finite : Cert.quiescent_ReferenceIdeal_pre_finite := fun m g _ => reference_frame m g trivial

/-- The claims, all proved. -/
theorem claim : Cert.Claim :=
  ⟨Kernel.Gen.facts, KernelIdeal.Gen.facts, ReferenceIdeal.Gen.facts, Pre_finite.Values.facts, kernel_frame, ideal_frame,
    ideal_frame_finite, reference_frame, reference_frame_finite, preserved, same_results⟩

end Cert.Proof

end
